-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 4, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x1 : Shape := ⟨2, ![256, 1]⟩

class Facts : Prop where
  bitsLt_bf16_f32 : FTy.bits .bf16 < FTy.bits .f32
  slices_S256x4096_S256x8_0_0 : S256x4096.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x1_0_0 : S256x8.Slices ![0, 0] S256x1
  bcast_S_S256x1 : S_.BroadcastsInDim S256x1 (![] : Fin 0 → Fin S256x1.rank)
  slices_S256x8_S256x1_0_1 : S256x8.Slices ![0, 1] S256x1
  slices_S256x8_S256x1_0_2 : S256x8.Slices ![0, 2] S256x1
  slices_S256x8_S256x1_0_3 : S256x8.Slices ![0, 3] S256x1
  slices_S256x8_S256x1_0_4 : S256x8.Slices ![0, 4] S256x1
  slices_S256x8_S256x1_0_5 : S256x8.Slices ![0, 5] S256x1
  slices_S256x8_S256x1_0_6 : S256x8.Slices ![0, 6] S256x1
  slices_S256x8_S256x1_0_7 : S256x8.Slices ![0, 7] S256x1
  concatenates_S256x1_S256x1_S256x1_S256x1_S256x1_S256x1_S256x1_S256x1_S256x8_d1 : Shape.Concatenates [S256x1, S256x1, S256x1, S256x1, S256x1, S256x1, S256x1, S256x1] S256x8 1
  gather_S256x4096_S256x8x1_S256x8_n_1_0_0_1_2_11_wf : GatherDims.WF S256x4096 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x4096_S256x8x1_S256x8_n_1_0_0_1_2_11 : GatherDims S256x4096 S256x8x1 S256x8 where
  offsetDims := []
  collapsedSliceDims := [1]
  operandBatchingDims := [0]
  startIndicesBatchingDims := [0]
  startIndexMap := [1]
  indexVectorDim := 2
  sliceSizes := ![1, 1]
  wf := gather_S256x4096_S256x8x1_S256x8_n_1_0_0_1_2_11_wf

def fn_argsort {F : FTy → Type} [FloatOps F] (arg0 : FVec F S256x4096 .f32) : IVec S256x4096 32 :=
  let v0 : IVec S256x4096 32 := iotaInDim S256x4096 32 1
  let v1_0 : FVec F S256x4096 .f32 := (fun x y => (Host.sort2 S256x4096 1 comparator_f32_i32_d1 x y).1) arg0 v0
  let v1_1 : IVec S256x4096 32 := (fun x y => (Host.sort2 S256x4096 1 comparator_f32_i32_d1 x y).2) arg0 v0
  v1_1

def fn_take_along_axis {F : FTy → Type} [FloatOps F] (arg0 : FVec F S256x4096 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 4096#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 4095#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x4096_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn_part3 {F : FTy → Type} [FloatOps F] (main_v7 : IVec S256x1 1) (main_v15 : IVec S256x1 1) (main_v23 : IVec S256x1 1) (main_v31 : IVec S256x1 1) (main_v39 : IVec S256x1 1) (main_v47 : IVec S256x1 1) (main_v55 : IVec S256x1 1) (main_v63 : IVec S256x1 1) : IVec S256x8 1 :=
  let main_v64 : IVec S256x8 1 := concatenate S256x8 1 [⟨S256x1, main_v7⟩, ⟨S256x1, main_v15⟩, ⟨S256x1, main_v23⟩, ⟨S256x1, main_v31⟩, ⟨S256x1, main_v39⟩, ⟨S256x1, main_v47⟩, ⟨S256x1, main_v55⟩, ⟨S256x1, main_v63⟩] concatenates_S256x1_S256x1_S256x1_S256x1_S256x1_S256x1_S256x1_S256x1_S256x8_d1
  main_v64

def fn_part2 {F : FTy → Type} [FloatOps F] (main_v4 : FVec F S256x8 .f32) (main_v7 : IVec S256x1 1) (main_v15 : IVec S256x1 1) (main_v23 : IVec S256x1 1) (main_v31 : IVec S256x1 1) (main_v39 : IVec S256x1 1) (main_v42 : IVec S256x1 1) : IVec S256x8 1 :=
  let main_v43 : IVec S256x1 1 := andi main_v39 main_v42
  let main_v44 : FVec F S256x1 .f32 := (extractStridedSlice S256x1 ![0, 5] · slices_S256x8_S256x1_0_5) main_v4
  let main_cst_4 : FVec F S_ .f32 := constant S_ .f32 0xFF7FFFFF#32
  let main_v45 : FVec F S256x1 .f32 := broadcastInDim S256x1 ![] bcast_S_S256x1 main_cst_4
  let main_v46 : IVec S256x1 1 := cmpf .oge main_v44 main_v45
  let main_v47 : IVec S256x1 1 := andi main_v43 main_v46
  let main_v48 : FVec F S256x1 .f32 := (extractStridedSlice S256x1 ![0, 5] · slices_S256x8_S256x1_0_5) main_v4
  let main_v49 : FVec F S256x1 .f32 := (extractStridedSlice S256x1 ![0, 6] · slices_S256x8_S256x1_0_6) main_v4
  let main_v50 : IVec S256x1 1 := cmpf .ogt main_v48 main_v49
  let main_v51 : IVec S256x1 1 := andi main_v47 main_v50
  let main_v52 : FVec F S256x1 .f32 := (extractStridedSlice S256x1 ![0, 6] · slices_S256x8_S256x1_0_6) main_v4
  let main_cst_5 : FVec F S_ .f32 := constant S_ .f32 0xFF7FFFFF#32
  let main_v53 : FVec F S256x1 .f32 := broadcastInDim S256x1 ![] bcast_S_S256x1 main_cst_5
  let main_v54 : IVec S256x1 1 := cmpf .oge main_v52 main_v53
  let main_v55 : IVec S256x1 1 := andi main_v51 main_v54
  let main_v56 : FVec F S256x1 .f32 := (extractStridedSlice S256x1 ![0, 6] · slices_S256x8_S256x1_0_6) main_v4
  let main_v57 : FVec F S256x1 .f32 := (extractStridedSlice S256x1 ![0, 7] · slices_S256x8_S256x1_0_7) main_v4
  let main_v58 : IVec S256x1 1 := cmpf .ogt main_v56 main_v57
  let main_v59 : IVec S256x1 1 := andi main_v55 main_v58
  let main_v60 : FVec F S256x1 .f32 := (extractStridedSlice S256x1 ![0, 7] · slices_S256x8_S256x1_0_7) main_v4
  let main_cst_6 : FVec F S_ .f32 := constant S_ .f32 0xFF7FFFFF#32
  let main_v61 : FVec F S256x1 .f32 := broadcastInDim S256x1 ![] bcast_S_S256x1 main_cst_6
  let main_v62 : IVec S256x1 1 := cmpf .oge main_v60 main_v61
  let main_v63 : IVec S256x1 1 := andi main_v59 main_v62
  fn_part3 (F := F) main_v7 main_v15 main_v23 main_v31 main_v39 main_v47 main_v55 main_v63

def fn_part1 {F : FTy → Type} [FloatOps F] (main_v4 : FVec F S256x8 .f32) (main_v7 : IVec S256x1 1) (main_v15 : IVec S256x1 1) (main_v19 : IVec S256x1 1) (main_v20 : FVec F S256x1 .f32) (main_cst_1 : FVec F S_ .f32) : IVec S256x8 1 :=
  let main_v21 : FVec F S256x1 .f32 := broadcastInDim S256x1 ![] bcast_S_S256x1 main_cst_1
  let main_v22 : IVec S256x1 1 := cmpf .oge main_v20 main_v21
  let main_v23 : IVec S256x1 1 := andi main_v19 main_v22
  let main_v24 : FVec F S256x1 .f32 := (extractStridedSlice S256x1 ![0, 2] · slices_S256x8_S256x1_0_2) main_v4
  let main_v25 : FVec F S256x1 .f32 := (extractStridedSlice S256x1 ![0, 3] · slices_S256x8_S256x1_0_3) main_v4
  let main_v26 : IVec S256x1 1 := cmpf .ogt main_v24 main_v25
  let main_v27 : IVec S256x1 1 := andi main_v23 main_v26
  let main_v28 : FVec F S256x1 .f32 := (extractStridedSlice S256x1 ![0, 3] · slices_S256x8_S256x1_0_3) main_v4
  let main_cst_2 : FVec F S_ .f32 := constant S_ .f32 0xFF7FFFFF#32
  let main_v29 : FVec F S256x1 .f32 := broadcastInDim S256x1 ![] bcast_S_S256x1 main_cst_2
  let main_v30 : IVec S256x1 1 := cmpf .oge main_v28 main_v29
  let main_v31 : IVec S256x1 1 := andi main_v27 main_v30
  let main_v32 : FVec F S256x1 .f32 := (extractStridedSlice S256x1 ![0, 3] · slices_S256x8_S256x1_0_3) main_v4
  let main_v33 : FVec F S256x1 .f32 := (extractStridedSlice S256x1 ![0, 4] · slices_S256x8_S256x1_0_4) main_v4
  let main_v34 : IVec S256x1 1 := cmpf .ogt main_v32 main_v33
  let main_v35 : IVec S256x1 1 := andi main_v31 main_v34
  let main_v36 : FVec F S256x1 .f32 := (extractStridedSlice S256x1 ![0, 4] · slices_S256x8_S256x1_0_4) main_v4
  let main_cst_3 : FVec F S_ .f32 := constant S_ .f32 0xFF7FFFFF#32
  let main_v37 : FVec F S256x1 .f32 := broadcastInDim S256x1 ![] bcast_S_S256x1 main_cst_3
  let main_v38 : IVec S256x1 1 := cmpf .oge main_v36 main_v37
  let main_v39 : IVec S256x1 1 := andi main_v35 main_v38
  let main_v40 : FVec F S256x1 .f32 := (extractStridedSlice S256x1 ![0, 4] · slices_S256x8_S256x1_0_4) main_v4
  let main_v41 : FVec F S256x1 .f32 := (extractStridedSlice S256x1 ![0, 5] · slices_S256x8_S256x1_0_5) main_v4
  let main_v42 : IVec S256x1 1 := cmpf .ogt main_v40 main_v41
  fn_part2 (F := F) main_v4 main_v7 main_v15 main_v23 main_v31 main_v39 main_v42

def fn {F : FTy → Type} [FloatOps F] (main_arg0 : FVec F S256x4096 .bf16) : IVec S256x8 1 :=
  let main_v0 : FVec F S256x4096 .f32 := (extf .f32 · bitsLt_bf16_f32) main_arg0
  let main_v1 : FVec F S256x4096 .f32 := Host.negf main_v0
  let main_v2 : IVec S256x4096 32 := fn_argsort (F := F) main_v1
  let main_v3 : IVec S256x8 32 := (extractStridedSlice S256x8 ![0, 0] · slices_S256x4096_S256x8_0_0) main_v2
  let main_v4 : FVec F S256x8 .f32 := fn_take_along_axis (F := F) main_v0 main_v3
  let main_v5 : FVec F S256x1 .f32 := (extractStridedSlice S256x1 ![0, 0] · slices_S256x8_S256x1_0_0) main_v4
  let main_cst : FVec F S_ .f32 := constant S_ .f32 0xFF7FFFFF#32
  let main_v6 : FVec F S256x1 .f32 := broadcastInDim S256x1 ![] bcast_S_S256x1 main_cst
  let main_v7 : IVec S256x1 1 := cmpf .oge main_v5 main_v6
  let main_v8 : FVec F S256x1 .f32 := (extractStridedSlice S256x1 ![0, 0] · slices_S256x8_S256x1_0_0) main_v4
  let main_v9 : FVec F S256x1 .f32 := (extractStridedSlice S256x1 ![0, 1] · slices_S256x8_S256x1_0_1) main_v4
  let main_v10 : IVec S256x1 1 := cmpf .ogt main_v8 main_v9
  let main_v11 : IVec S256x1 1 := andi main_v7 main_v10
  let main_v12 : FVec F S256x1 .f32 := (extractStridedSlice S256x1 ![0, 1] · slices_S256x8_S256x1_0_1) main_v4
  let main_cst_0 : FVec F S_ .f32 := constant S_ .f32 0xFF7FFFFF#32
  let main_v13 : FVec F S256x1 .f32 := broadcastInDim S256x1 ![] bcast_S_S256x1 main_cst_0
  let main_v14 : IVec S256x1 1 := cmpf .oge main_v12 main_v13
  let main_v15 : IVec S256x1 1 := andi main_v11 main_v14
  let main_v16 : FVec F S256x1 .f32 := (extractStridedSlice S256x1 ![0, 1] · slices_S256x8_S256x1_0_1) main_v4
  let main_v17 : FVec F S256x1 .f32 := (extractStridedSlice S256x1 ![0, 2] · slices_S256x8_S256x1_0_2) main_v4
  let main_v18 : IVec S256x1 1 := cmpf .ogt main_v16 main_v17
  let main_v19 : IVec S256x1 1 := andi main_v15 main_v18
  let main_v20 : FVec F S256x1 .f32 := (extractStridedSlice S256x1 ![0, 2] · slices_S256x8_S256x1_0_2) main_v4
  let main_cst_1 : FVec F S_ .f32 := constant S_ .f32 0xFF7FFFFF#32
  fn_part1 (F := F) main_v4 main_v7 main_v15 main_v19 main_v20 main_cst_1
-- ==== Kernel.lean ====
abbrev S256x1024 : Shape := ⟨2, ![256, 1024]⟩
abbrev S256x8 : Shape := ⟨2, ![256, 8]⟩
abbrev S4x256x8 : Shape := ⟨3, ![4, 256, 8]⟩
abbrev S4 : Shape := ⟨1, ![4]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x32 : Shape := ⟨2, ![256, 32]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S4x256x8, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v12 : BitVec 32 := Scalar.muli v2 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let v11 : BitVec 32 := Scalar.remsi v10 c4_i32_3
  let c4_i32_6 : BitVec 32 := 4#32
  let v14 : BitVec 32 := Scalar.muli v11 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v20 : BitVec 32 := Scalar.muli v2 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v18 : BitVec 32 := Scalar.addi v5 c2_i32_8
  let c4_i32_9 : BitVec 32 := 4#32
  let v19 : BitVec 32 := Scalar.remsi v18 c4_i32_9
  let c4_i32_13 : BitVec 32 := 4#32
  let v22 : BitVec 32 := Scalar.muli v19 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v24 : BitVec 32 := Scalar.muli v8 c1_i32_14
  let v25 : BitVec 32 := Scalar.addi v23 v24
  v25.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v28 : BitVec 32 := Scalar.muli v2 c16_i32_17
  let v29 : BitVec 32 := Scalar.addi c0_i32_18 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v26 : BitVec 32 := Scalar.addi v5 c3_i32
  let c4_i32_15 : BitVec 32 := 4#32
  let v27 : BitVec 32 := Scalar.remsi v26 c4_i32_15
  let c4_i32_19 : BitVec 32 := 4#32
  let v30 : BitVec 32 := Scalar.muli v27 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v32 : BitVec 32 := Scalar.muli v8 c1_i32_20
  let v33 : BitVec 32 := Scalar.addi v31 v32
  v33.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v87 : BitVec 32 := Scalar.muli v2 c16_i32_46
  let v88 : BitVec 32 := Scalar.addi c0_i32_47 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_40 : BitVec 32 := 1#32
  let v85 : BitVec 32 := Scalar.addi v5 c1_i32_40
  let c4_i32_41 : BitVec 32 := 4#32
  let v86 : BitVec 32 := Scalar.remsi v85 c4_i32_41
  let c4_i32_48 : BitVec 32 := 4#32
  let v89 : BitVec 32 := Scalar.muli v86 c4_i32_48
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v91 : BitVec 32 := Scalar.muli v8 c1_i32_49
  let v92 : BitVec 32 := Scalar.addi v90 v91
  v92.toNat
def k0_dev5 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v103 : BitVec 32 := Scalar.muli v2 c16_i32_60
  let v104 : BitVec 32 := Scalar.addi c0_i32_61 v103
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_54 : BitVec 32 := 2#32
  let v101 : BitVec 32 := Scalar.addi v5 c2_i32_54
  let c4_i32_55 : BitVec 32 := 4#32
  let v102 : BitVec 32 := Scalar.remsi v101 c4_i32_55
  let c4_i32_62 : BitVec 32 := 4#32
  let v105 : BitVec 32 := Scalar.muli v102 c4_i32_62
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v107 : BitVec 32 := Scalar.muli v8 c1_i32_63
  let v108 : BitVec 32 := Scalar.addi v106 v107
  v108.toNat
def k0_dev6 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v119 : BitVec 32 := Scalar.muli v2 c16_i32_74
  let v120 : BitVec 32 := Scalar.addi c0_i32_75 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_68 : BitVec 32 := 3#32
  let v117 : BitVec 32 := Scalar.addi v5 c3_i32_68
  let c4_i32_69 : BitVec 32 := 4#32
  let v118 : BitVec 32 := Scalar.remsi v117 c4_i32_69
  let c4_i32_76 : BitVec 32 := 4#32
  let v121 : BitVec 32 := Scalar.muli v118 c4_i32_76
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v123 : BitVec 32 := Scalar.muli v8 c1_i32_77
  let v124 : BitVec 32 := Scalar.addi v122 v123
  v124.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .f32⟩
  | .hbm, ⟨2, _⟩ => ⟨S256x4096, .f32⟩
  | .hbm, ⟨3, _⟩ => ⟨S256x4096, .i32⟩
  | .hbm, ⟨4, _⟩ => ⟨S256x4096, .f32⟩
  | .hbm, ⟨5, _⟩ => ⟨S256x4096, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Protocol.lean ====
/-
# The exchange between the devices

Device `c` of the 2 × 4 × 4 mesh has three partners, the devices that differ from it in the `y`
coordinate alone: `peer o c` is `o + 1` places further along `y` (`o : Fin 3`), so `peer (2 - o)` goes back.

* The meeting: every device raises the meeting semaphore of its three partners by one and waits for three.
  With the raise at offset `o`, device `c` lends `peer o c` slot `o + 1` of its own exchange buffer: the slot
  `peer o c` will copy its list of maxima into.
* The copies: `c` writes its list into slot 0 and starts three copies of it; the copy to `peer o c` lands in
  slot `3 - o` there, raising send semaphore `o + 1` of `c` and receive semaphore `3 - o` of `peer o c`. The
  copies are in flight together, so slot 0 is lent in three shares.
* The waits: receive semaphores 1, 2, 3, then send semaphores 1, 2, 3.

Here: the partners, the semaphores and slots by number, and the schedule of who raises what with which
resources.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.TopkProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Partners -/

/-- The offset that leads back: `peer (rev o)` undoes `peer o`. -/
abbrev rev (o : Fin 3) : Fin 3 := Fin.rev o

set_option backward.proofsInPublic true in
/-- The device `o + 1` places further along `y`. -/
def peer (o : Fin 3) (c : Dev nD) : Dev nD :=
  ⟨16 * (c.val / 16) + 4 * ((c.val / 4 % 4 + (o.val + 1)) % 4) + c.val % 4, by
    have h1 : c.val < 32 := c.isLt
    show _ < 32
    omega⟩

theorem peer_rev (o : Fin 3) (c : Dev nD) : peer (rev o) (peer o c) = c := by
  apply Fin.ext
  have h1 := c.isLt
  have h2 := o.isLt
  simp only [peer, Fin.val_rev]
  omega

theorem rev_rev (o : Fin 3) : rev (rev o) = o := Fin.rev_rev o

theorem peer_rev' (o : Fin 3) (c : Dev nD) : peer o (peer (rev o) c) = c := by
  have := peer_rev (rev o) c
  rwa [rev_rev] at this

/-- Going to the partner at offset `o`, as a permutation of the devices. -/
def around (o : Fin 3) : Dev nD ≃ Dev nD := ⟨peer o, peer (rev o), peer_rev o, peer_rev' o⟩

theorem sig1_eq (c : Dev nD) : (⟨k0_dev1 c, k0_dev1_lt c⟩ : Dev nD) = peer 0 c := Fin.ext (k0_dev1_eq c)
theorem sig2_eq (c : Dev nD) : (⟨k0_dev2 c, k0_dev2_lt c⟩ : Dev nD) = peer 1 c := Fin.ext (k0_dev2_eq c)
theorem sig3_eq (c : Dev nD) : (⟨k0_dev3 c, k0_dev3_lt c⟩ : Dev nD) = peer 2 c := Fin.ext (k0_dev3_eq c)
theorem cpy1_eq (c : Dev nD) : (⟨k0_dev4 c, k0_dev4_lt c⟩ : Dev nD) = peer 0 c := Fin.ext (k0_dev4_eq c)
theorem cpy2_eq (c : Dev nD) : (⟨k0_dev5 c, k0_dev5_lt c⟩ : Dev nD) = peer 1 c := Fin.ext (k0_dev5_eq c)
theorem cpy3_eq (c : Dev nD) : (⟨k0_dev6 c, k0_dev6_lt c⟩ : Dev nD) = peer 2 c := Fin.ext (k0_dev6_eq c)

/-! ## Semaphores and cells -/

abbrev barS : Sem sig := (SemArray.scalar (sig.barrier 0 rfl) : Sems sig S_).sem
/-- Send semaphore `o + 1` and receive semaphore `o + 1`. -/
def sS (o : Fin 3) : DmaSem sig := ⟨3 + o.val, by have := o.isLt; show _ < 10; omega⟩
def rS (o : Fin 3) : DmaSem sig := ⟨7 + o.val, by have := o.isLt; show _ < 10; omega⟩

abbrev barCell (c : Dev nD) : GSem nD τ sig := ((c : Thread nD τ), .reg barS)
abbrev sendCell (c : Dev nD) (o : Fin 3) : GSem nD τ sig := ((c : Thread nD τ), .dma (sS o))
abbrev recvCell (c : Dev nD) (o : Fin 3) : GSem nD τ sig := ((c : Thread nD τ), .dma (rS o))

/-- The semaphores the exchange runs on: the meeting's, the three sends', the three receives'. -/
abbrev XSem := Unit ⊕ (Fin 3 ⊕ Fin 3)
def xsem : XSem → SemLoc sig
  | .inl _ => .reg barS
  | .inr (.inl o) => .dma (sS o)
  | .inr (.inr o) => .dma (rS o)
abbrev xcell (ck : Dev nD × XSem) : GSem nD τ sig := ((ck.1 : Thread nD τ), xsem ck.2)

/-! ## Slots of the exchange buffer -/

abbrev xM : Memref sig .tc .vmem S256x1024 .bf16 := Memref.whole cc0_stg0_0
abbrev oM : Memref sig .tc .vmem S256x8 .f32 := Memref.whole cc0_stg1_0
abbrev bM : Memref sig .tc .vmem S4x256x8 .f32 := Memref.whole cc0_scratch0

theorem slot_inb (j : Fin 4) : ∀ a, (![j.val, 0, 0] : Fin 3 → Nat) a + S1x256x8.size a ≤ S4x256x8.size a := by
  intro a; fin_cases j <;> fin_cases a <;> decide

/-- Slot `j` of the exchange buffer, as a rectangle, as what a load or store of it goes through, and as a copy
    names it. -/
abbrev slotR (j : Fin 4) : Rect S4x256x8 := Rect.unit (s := S4x256x8) ![j.val, 0, 0] S1x256x8.size (slot_inb j)
abbrev slotV (j : Fin 4) : View sig .tc .vmem S1x256x8 .f32 := (bM : Memref sig .tc .vmem S4x256x8 .f32).access (slotR j)
abbrev slotM (j : Fin 4) : Memref sig .tc .vmem S256x8 .f32 :=
  ((bM : Memref sig .tc .vmem S4x256x8 .f32).slice (slotR j) (fun _ => rfl)).squeeze S256x8 squeezes_S1x256x8_S256x8

abbrev bLoc (c : Dev nD) : Loc nD τ sig := (c : Thread nD τ).loc cc0_scratch0

/-- The buffer as it was at launch but for slot `j`, which holds `X`. -/
def filled (c : Dev nD) (j : Fin 4) (X : S1x256x8.Idx → Elt F .f32) : Buf (Elt F) (bLoc c) :=
  (slotV j).write (Elt F) (m (bLoc c)) X Finset.univ

/-- Share `q` of slot `j` of device `c`, holding `X`. -/
def slotAt (c : Dev nD) (j : Fin 4) (q : PosShare TreeShare) (X : S1x256x8.Idx → Elt F .f32) : sProp 𝕄 :=
  bLoc c ↦[(slotV j).set]{q} filled m c j X

/-- Slot `j` of device `c` at some contents. -/
def slotAny (c : Dev nD) (j : Fin 4) : sProp 𝕄 :=
  iprop(∃ f : Buf (Elt F) (bLoc c), bLoc c ↦[(slotV j).set]{fullShare} f)

omit [FloatOps F] in
/-- Whatever the rest of the buffer holds, writing `X` into the slot is the slot holding `X`. -/
theorem slotAt_of_write (c : Dev nD) (j : Fin 4) (q : PosShare TreeShare) (X : S1x256x8.Idx → Elt F .f32) (f : Buf (Elt F) (bLoc c)) :
    (bLoc c ↦[(slotV j).set]{q} (slotV j).write (Elt F) f X Finset.univ : sProp 𝕄) = slotAt m c j q X := by
  unfold slotAt filled
  refine pointsTo_congr fun i hi => ?_
  obtain ⟨x, -, rfl⟩ := Finset.mem_map.mp hi
  exact (View.write_emb_of_mem _ _ (Finset.mem_univ x)).trans (View.write_emb_of_mem _ _ (Finset.mem_univ x)).symm

omit [FloatOps F] in
theorem read_filled (c : Dev nD) (j : Fin 4) (X : S1x256x8.Idx → Elt F .f32) :
    (slotV j).read (Elt F) (filled m c j X) = X := View.read_write_univ _ _

omit [FloatOps F] in
theorem slotM_set (j : Fin 4) : (slotM j).view.set = (slotV j).set := View.set_reshape _ _

omit [FloatOps F] in
/-- A copy of slot `i`, holding `X`, over slot `j` is `X` written there. -/
theorem copy_eq (c d : Dev nD) (i j : Fin 4) (X : S1x256x8.Idx → Elt F .f32) (fd : Buf (Elt F) (bLoc d)) :
    (slotM j).view.write (Elt F) fd ((slotM i).view.read (Elt F) (filled m c i X)) Finset.univ
      = (slotV j).write (Elt F) fd X Finset.univ := by
  have hw := View.write_reshape_univ (slotV j) squeezes_S1x256x8_S256x8.numel_eq fd ((slotM i).view.read (Elt F) (filled m c i X))
  refine hw.trans (congrArg (fun w => (slotV j).write (Elt F) fd w Finset.univ) (funext fun x => ?_))
  refine Eq.trans ?_ (congrFun (read_filled m c i X) x)
  exact congrArg ((slotV i).read (Elt F) (filled m c i X)) (Equiv.apply_symm_apply _ x)

instance slotAt_storable (c : Dev nD) (j : Fin 4) (q) (X) : BI.Storable (upEmb : UEmb _ 𝕄) (slotAt (F := F) m c j q X) := by
  unfold slotAt; infer_instance
instance slotAny_storable (c : Dev nD) (j : Fin 4) : BI.Storable (upEmb : UEmb _ 𝕄) (slotAny (F := F) c j) := by
  unfold slotAny; infer_instance

/-- The bytes of one slot, as a copy's semaphores count them. -/
abbrev N : ℕ := (slotM 0).view.dmaCredit
theorem N_pos : 0 < N := View.dmaCredit_pos _ (by decide)
theorem slot_credit (j : Fin 4) : (slotM j).view.dmaCredit = N := by fin_cases j <;> rfl

/-! ## Contents -/

/-- Device `c`'s block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The list of row maxima the kernel makes of a block, as it stores it in slot 0. -/
def topOf (v : Vec F S256x1024 .bf16) : FVec F S1x256x8 .f32 :=
  k0_pay16 (k0_pay3 v) (k0_pay5 v) (k0_pay7 v) (k0_pay9 v) (k0_pay11 v) (k0_pay12 v) (k0_pay13 v) (k0_pay14 v) k0_pay15

/-- The list the kernel makes of the four lists it holds. -/
def mergeOf (a b d e : Vec F S1x256x8 .f32) : FVec F S256x8 .f32 :=
  k0_pay1 (k0_pay18 a b d e) (k0_pay20 a b d e) (k0_pay22 a b d e) (k0_pay24 a b d e) (k0_pay26 a b d e) (k0_pay27 a b d e) (k0_pay28 a b d e)

def tops (c : Dev nD) : FVec F S1x256x8 .f32 := topOf (xstg m ρ c)

/-! ## The schedule -/

/-- The share of slot 0 lent to the copy at offset `o`. -/
def lent : Fin 3 → PosShare TreeShare
  | 0 => fullShare.left
  | 1 => fullShare.right.left
  | 2 => fullShare.right.right

/-- What raising `c`'s meeting semaphore from the partner that is `o + 1` places before hands over: that
    partner's slot `o + 1`. -/
def barPay (c : Dev nD) (o : Fin 3) : sProp 𝕄 := slotAny (F := F) (peer (rev o) c) o.succ
/-- What a landed copy hands over: slot `o + 1` holding the list of the partner at offset `o`. -/
def recvPay (c : Dev nD) (o : Fin 3) : sProp 𝕄 := slotAt m c o.succ fullShare (tops m ρ (peer o c))
/-- What a finished send gives back: its share of slot 0. -/
def sendPay (c : Dev nD) (o : Fin 3) : sProp 𝕄 := slotAt m c 0 (lent o) (tops m ρ c)

/-- Which of the exchange's semaphores a semaphore is. -/
def which : SemLoc sig → Option XSem
  | .reg _ => some (.inl ())
  | .dma q => if h : 3 ≤ q.val ∧ q.val < 6 then some (.inr (.inl ⟨q.val - 3, by omega⟩))
      else if h : 7 ≤ q.val then some (.inr (.inr ⟨q.val - 7, by have : q.val < 10 := q.isLt; omega⟩)) else none

theorem which_xsem (k : XSem) : which (xsem k) = some k := by
  rcases k with u | o | o
  · rfl
  · fin_cases o <;> rfl
  · fin_cases o <;> rfl

theorem xsem_injective : Function.Injective xsem := fun a b h => by
  have := congrArg which h
  rw [which_xsem, which_xsem] at this
  exact Option.some.inj this

/-- The duties of one of the exchange's semaphores, the amount each pays, and what each hands over. -/
def dutiesOf : XSem → Finset (Fin 3)
  | .inl _ => Finset.univ
  | .inr _ => {0}
def amountOf : XSem → ℕ
  | .inl _ => 1
  | .inr _ => N
def payOf (c : Dev nD) : XSem → Fin 3 → sProp 𝕄
  | .inl _, d => barPay (F := F) c d
  | .inr (.inl o), _ => sendPay m ρ c o
  | .inr (.inr o), _ => recvPay m ρ c o

theorem amountOf_pos (k : XSem) : 0 < amountOf k := by rcases k with u | o <;> first | exact Nat.one_pos | exact N_pos

instance payOf_storable (c : Dev nD) (k : XSem) (d : Fin 3) : BI.Storable (upEmb : UEmb _ 𝕄) (payOf (F := F) m ρ c k d) := by
  rcases k with u | o | o <;> unfold payOf <;> first | (unfold barPay; infer_instance) | (unfold sendPay; infer_instance) | (unfold recvPay; infer_instance)

/-- One round on each of the exchange's semaphores. -/
def sched : Rounds.Schedule (GSem nD τ sig) (Fin 3) 𝕄 where
  duties g r := if r = 0 ∧ g.1.2 = .tc then (match which g.2 with | some k => dutiesOf k | none => ∅) else ∅
  unitless _ := False
  amount g _ _ := match which g.2 with | some k => amountOf k | none => 1
  payload g _ d := match which g.2 with | some k => payOf m ρ g.1.1 k d | none => iprop(emp)
  amount_pos g _ _ _ := by
    cases which g.2 with
    | none => exact Nat.one_pos
    | some k => exact amountOf_pos k

instance sched_payload_storable (g : GSem nD τ sig) (r : ℕ) (d : Fin 3) :
    BI.Storable (upEmb : UEmb _ 𝕄) ((sched (F := F) m ρ).payload g r d) := by
  show BI.Storable upEmb (match which g.2 with | some k => payOf m ρ g.1.1 k d | none => iprop(emp))
  cases which g.2 with
  | none => show BI.Storable upEmb iprop(emp); infer_instance
  | some k => exact payOf_storable m ρ _ k d

section Sched
variable (c : Dev nD) (k : XSem)

theorem duties_at : (sched (F := F) m ρ).duties (xcell (c, k)) 0 = dutiesOf k := by
  dsimp only [sched]
  rw [if_pos ⟨rfl, rfl⟩, which_xsem]

theorem duties_later (g : GSem nD τ sig) : ∀ r, 1 ≤ r → (sched (F := F) m ρ).duties g r = ∅ :=
  fun r hr => by dsimp only [sched]; rw [if_neg fun h => by omega]

theorem amount_at (d : Fin 3) : (sched (F := F) m ρ).amount (xcell (c, k)) 0 d = amountOf k := by
  dsimp only [sched]; rw [which_xsem]

theorem payload_at (d : Fin 3) : (sched (F := F) m ρ).payload (xcell (c, k)) 0 d = payOf m ρ c k d := by
  dsimp only [sched]; rw [which_xsem]

theorem expect_at : (sched (F := F) m ρ).expect (xcell (c, k)) 0 = (dutiesOf k).card * amountOf k := by
  unfold Schedule.expect Schedule.amountOf
  rw [duties_at, Finset.sum_congr rfl fun d _ => amount_at m ρ c k d, Finset.sum_const, smul_eq_mul]

theorem expect_bar : (sched (F := F) m ρ).expect (barCell c) 0 = 3 :=
  (expect_at m ρ c (.inl ())).trans (by decide)
theorem expect_send (o : Fin 3) : (sched (F := F) m ρ).expect (sendCell c o) 0 = N :=
  (expect_at m ρ c (.inr (.inl o))).trans (Nat.one_mul _)
theorem expect_recv (o : Fin 3) : (sched (F := F) m ρ).expect (recvCell c o) 0 = N :=
  (expect_at m ρ c (.inr (.inr o))).trans (Nat.one_mul _)

/-- All that the meeting's three raises hand over. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, show barCell c = xcell (c, .inl ()) from rfl, duties_at]
  simp only [payload_at]
  exact bigSep_univ_eq_bigSepL [0, 1, 2] (by decide) (by decide) _
theorem rest_send (o : Fin 3) : bigSep ((sched (F := F) m ρ).duties (sendCell c o) 0 \ ∅) (fun d => (sched (F := F) m ρ).payload (sendCell c o) 0 d)
    = sendPay m ρ c o := by
  rw [Finset.sdiff_empty, show sendCell c o = xcell (c, .inr (.inl o)) from rfl, duties_at]
  simp only [payload_at]
  exact bigSep_singleton
theorem rest_recv (o : Fin 3) : bigSep ((sched (F := F) m ρ).duties (recvCell c o) 0 \ ∅) (fun d => (sched (F := F) m ρ).payload (recvCell c o) 0 d)
    = recvPay m ρ c o := by
  rw [Finset.sdiff_empty, show recvCell c o = xcell (c, .inr (.inr o)) from rfl, duties_at]
  simp only [payload_at]
  exact bigSep_singleton

end Sched

/-! ## What each device owes at launch; the levels -/

/-- Device `c` owes each partner the bytes of one copy, and one raise of the meeting semaphore. The copies' part
    and the whole, summed so that each raise and each copy in program order takes the last summand off. -/
def owesCopies (c : Dev nD) : CellTallies nD τ sig Unit :=
  0 + tallyAt (recvCell (peer 2 c) 0) () N + tallyAt (recvCell (peer 1 c) 1) () N + tallyAt (recvCell (peer 0 c) 2) () N
def O₀ (c : Dev nD) : CellTallies nD τ sig Unit :=
  owesCopies c + tallyAt (barCell (peer 2 c)) () 1 + tallyAt (barCell (peer 1 c)) () 1 + tallyAt (barCell (peer 0 c)) () 1

def L (g : GSem nD τ sig) : Finset Unit := if g.1.2 = .tc then {()} else ∅
/-- Meeting semaphores at level 1, receive semaphores at level 2, everything else at 0. -/
def lv (g : GSem nD τ sig) (_ : Unit) : ℕ := match which g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : XSem) : lv (xcell (c, k)) () = match (some k : Option XSem) with
    | some (.inl _) => 1 | some (.inr (.inr _)) => 2 | _ => 0 := by
  unfold lv; rw [which_xsem]
theorem lv_bar (c : Dev nD) : lv (barCell c) () = 1 := lv_at c (.inl ())
theorem lv_recv (c : Dev nD) (o : Fin 3) : lv (recvCell c o) () = 2 := lv_at c (.inr (.inr o))

theorem tallyAt_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h
  omega

theorem owesCopies_pos {c : Dev nD} {g : GSem nD τ sig} {u : Unit} (h : 0 < owesCopies c g u) : ∃ d o, g = recvCell d o := by
  unfold owesCopies at h
  rcases add_pos h with h | h
  · rcases add_pos h with h | h
    · rcases add_pos h with h | h
      · exact absurd h (Nat.lt_irrefl 0)
      · exact ⟨_, _, tallyAt_pos h⟩
    · exact ⟨_, _, tallyAt_pos h⟩
  · exact ⟨_, _, tallyAt_pos h⟩

theorem O₀_pos {c : Dev nD} {g : GSem nD τ sig} {u : Unit} (h : 0 < O₀ c g u) : (∃ d o, g = recvCell d o) ∨ ∃ d, g = barCell d := by
  unfold O₀ at h
  rcases add_pos h with h | h
  · rcases add_pos h with h | h
    · rcases add_pos h with h | h
      · exact .inl (owesCopies_pos h)
      · exact .inr ⟨_, tallyAt_pos h⟩
    · exact .inr ⟨_, tallyAt_pos h⟩
  · exact .inr ⟨_, tallyAt_pos h⟩

omit [FloatOps F] in
/-- A wait on a semaphore at level 0 is allowed whatever the device owes. -/
theorem mayWait_low (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, o, rfl⟩ | ⟨d, rfl⟩ <;> exact Finset.mem_singleton_self _)
      (fun p hp => by rw [Finset.mem_singleton.mp hp]; exact hq.le)
      (fun g u hg => by
        rcases O₀_pos hg with ⟨d, o, rfl⟩ | ⟨d, rfl⟩
        · rw [lv_recv]; decide
        · rw [lv_bar]; decide)
  · rw [MayWait_zero]; iintro -; iempintro

omit [FloatOps F] in
/-- At the meeting's wait a device owes only copies: receive semaphores, above the meeting's. -/
theorem mayWait_bar (c : Dev nD) :
    (levAts L lv : sProp 𝕄) ⊢ MayWait (c : Thread nD τ) (.reg barS) () (owesCopies c) :=
  MayOwe.of_cut (L := L) (lev := lv) 1 (fun p hp => by rw [Finset.mem_singleton.mp hp, L_tc]; exact Finset.mem_singleton_self _)
    (fun g u hg => by obtain ⟨d, o, rfl⟩ := owesCopies_pos hg; exact Finset.mem_singleton_self _)
    (fun p hp => by rw [Finset.mem_singleton.mp hp]; exact (lv_bar c).le)
    (fun g u hg => by obtain ⟨d, o, rfl⟩ := owesCopies_pos hg; rw [lv_recv]; decide)

end Cert.TopkProof

end
-- ==== Proof.Rounds.lean ====
/-
# Taking the largest entry again and again

A family of extended reals is read in rounds: each round takes the largest entry and strikes out every entry equal to
it, writing a filler in its place. `pick` is the entry taken in a round. When the family's largest entries strictly
decrease and are not below the filler, the rounds take them in order (`pick_eq`); when the family is cut into blocks,
each block is read in rounds, and what the blocks' rounds took is read in rounds again, the same entries come out
(`pick_merged`).
-/
module

public import Mathlib.Data.EReal.Basic
public import Mathlib.Data.Finset.Fold
public import Mathlib.Order.Fin.Basic

@[expose] public section

noncomputable section

namespace Cert.TopkProof

section Largest

variable {ι : Type} [Fintype ι] (z : EReal) (f : ι → EReal)

/-- The largest entry; minus infinity of a family without entries. -/
def top : EReal := Finset.univ.fold max ⊥ f

theorem le_top (x : ι) : f x ≤ top f := Finset.le_fold_max (b := ⊥) (f := f) (s := Finset.univ) (f x) |>.mpr (Or.inr ⟨x, Finset.mem_univ x, le_rfl⟩)

theorem top_le {c : EReal} (h : ∀ x, f x ≤ c) : top f ≤ c := (Finset.fold_max_le c).mpr ⟨bot_le, fun x _ => h x⟩

theorem top_mem (h : ⊥ < top f) : ∃ x, f x = top f := by
  rcases (Finset.le_fold_max (b := ⊥) (f := f) (s := Finset.univ) (top f)).mp le_rfl with hb | ⟨x, -, hx⟩
  · exact absurd hb (not_le.mpr h)
  · exact ⟨x, le_antisymm (le_top f x) hx⟩

/-- The family with every entry equal to the largest struck out. -/
def strike : ι → EReal := fun x => if f x = top f then z else f x

/-- The family after `n` rounds. -/
def after : ℕ → ι → EReal
  | 0 => f
  | n + 1 => strike z (after n)

/-- The entry round `n` takes. -/
def pick (n : ℕ) : EReal := top (after z f n)

/-- After any number of rounds an entry is the filler or what it was. -/
theorem after_cases (n : ℕ) (x : ι) : after z f n x = z ∨ after z f n x = f x := by
  induction n with
  | zero => exact Or.inr rfl
  | succ n ih =>
    show (if after z f n x = _ then z else after z f n x) = z ∨ (if after z f n x = _ then z else after z f n x) = f x
    split
    · exact Or.inl rfl
    · exact ih

/-- What a round takes is the filler or an entry, if there is an entry. -/
theorem pick_cases [Nonempty ι] (n : ℕ) : pick z f n = z ∨ ∃ x, pick z f n = f x := by
  have key : ∃ x, after z f n x = pick z f n := by
    by_cases h : ⊥ < pick z f n
    · exact top_mem _ h
    · obtain ⟨x⟩ := ‹Nonempty ι›
      have h0 : pick z f n = ⊥ := not_bot_lt_iff.mp h
      exact ⟨x, le_antisymm (le_top _ x) (h0 ▸ bot_le)⟩
  obtain ⟨x, hx⟩ := key
  rcases after_cases z f n x with h | h
  · exact Or.inl (hx.symm.trans h)
  · exact Or.inr ⟨x, hx.symm.trans h⟩

/-- Each round takes less than the one before, as long as it takes more than the filler. -/
theorem pick_succ_lt (n : ℕ) (h : z < pick z f (n + 1)) : pick z f (n + 1) < pick z f n := by
  obtain ⟨x, hx⟩ := top_mem _ (lt_of_le_of_lt bot_le h)
  have hx' : (if after z f n x = top (after z f n) then z else after z f n x) = pick z f (n + 1) := hx
  split at hx'
  · exact absurd hx' h.ne
  · rename_i hne
    rw [← hx']
    exact lt_of_le_of_ne (le_top _ x) hne

end Largest

section Leading

variable {ι : Type} [Fintype ι] (z : EReal) (f : ι → EReal) (s : ℕ → EReal) (k : ℕ)

/-- `s 0 > s 1 > … > s k` are not below the filler, and no entry of the family other than these exceeds `s k`. -/
structure Leads : Prop where
  lt : ∀ i, i < k → s (i + 1) < s i
  filler : z ≤ s k
  rest : ∀ x, f x ≤ s k ∨ ∃ i, i < k ∧ f x = s i

variable {z f s k}

theorem Leads.anti (h : Leads z f s k) {i j : ℕ} (hij : i < j) (hj : j ≤ k) : s j < s i := by
  induction j, hij using Nat.le_induction with
  | base => exact h.lt i hj
  | succ j hij ih => exact (h.lt j hj).trans (ih (by omega))

theorem Leads.anti' (h : Leads z f s k) {i j : ℕ} (hij : i ≤ j) (hj : j ≤ k) : s j ≤ s i := by
  rcases Nat.lt_or_eq_of_le hij with h' | rfl
  · exact (h.anti h' hj).le
  · exact le_rfl

/-- Where all of `s 0, …, s k` are entries, the rounds take them in order. -/
theorem pick_eq (h : Leads z f s k) (hmem : ∀ i, i ≤ k → ∃ x, f x = s i) (j : ℕ) (hj : j ≤ k) : pick z f j = s j := by
  classical
  have key : ∀ j, j ≤ k → (∀ x, after z f j x = if ∃ i, i < j ∧ f x = s i then z else f x) ∧ pick z f j = s j := by
    intro j
    induction j with
    | zero =>
      intro _
      refine ⟨fun x => (if_neg fun ⟨i, hi, _⟩ => absurd hi (Nat.not_lt_zero i)).symm, ?_⟩
      obtain ⟨x, hx⟩ := hmem 0 (Nat.zero_le k)
      refine le_antisymm (top_le _ fun y => ?_) (hx ▸ le_top f x)
      show f y ≤ s 0
      rcases h.rest y with hy | ⟨i, hi, hy⟩
      · exact hy.trans (h.anti' (Nat.zero_le k) le_rfl)
      · exact hy ▸ h.anti' (Nat.zero_le i) hi.le
    | succ j ih =>
      intro hj
      obtain ⟨ha, hp⟩ := ih (by omega)
      have ha' : ∀ x, after z f (j + 1) x = if ∃ i, i < j + 1 ∧ f x = s i then z else f x := by
        intro x
        show (if after z f j x = pick z f j then z else after z f j x) = _
        rw [hp, ha x]
        by_cases h1 : ∃ i, i < j ∧ f x = s i
        · rw [if_pos h1, ite_self, if_pos]
          obtain ⟨i, hi, e⟩ := h1
          exact ⟨i, by omega, e⟩
        · rw [if_neg h1]
          by_cases h2 : f x = s j
          · rw [if_pos h2, if_pos ⟨j, by omega, h2⟩]
          · rw [if_neg h2, if_neg]
            rintro ⟨i, hi, e⟩
            rcases Nat.lt_or_eq_of_le (Nat.le_of_lt_succ hi) with hi' | rfl
            · exact h1 ⟨i, hi', e⟩
            · exact h2 e
      refine ⟨ha', le_antisymm (top_le _ fun x => ?_) ?_⟩
      · rw [ha' x]
        split
        · exact h.filler.trans (h.anti' hj le_rfl)
        · rename_i hn
          rcases h.rest x with hx | ⟨i, hi, hx⟩
          · exact hx.trans (h.anti' hj le_rfl)
          · by_cases hij : i < j + 1
            · exact absurd ⟨i, hij, hx⟩ hn
            · exact hx ▸ h.anti' (Nat.le_of_not_lt hij) hi.le
      · obtain ⟨x, hx⟩ := hmem (j + 1) hj
        have : after z f (j + 1) x = s (j + 1) := by
          rw [ha' x, if_neg, hx]
          rintro ⟨i, hi, e⟩
          exact absurd (hx.symm.trans e) (h.anti hi hj).ne
        exact this ▸ le_top _ x
  exact (key j hj).2

/-- Where `s i` is an entry, one of the rounds `0, …, i` takes it. -/
theorem pick_of_mem (h : Leads z f s k) {i : ℕ} (hi : i ≤ k) {x : ι} (hx : f x = s i) : ∃ j, j ≤ i ∧ pick z f j = s i := by
  by_contra hno
  have hne : ∀ j, j ≤ i → pick z f j ≠ s i := fun j hj e => hno ⟨j, hj, e⟩
  have hzi : z ≤ s i := h.filler.trans (h.anti' hi le_rfl)
  have h1 : ∀ j, j ≤ i → after z f j x = s i := by
    intro j
    induction j with
    | zero => exact fun _ => hx
    | succ j ih =>
      intro hj
      show (if after z f j x = pick z f j then z else after z f j x) = s i
      rw [ih (by omega), if_neg (hne j (by omega)).symm]
  have h2 : ∀ j, j ≤ i → s i < pick z f j := fun j hj => lt_of_le_of_ne (h1 j hj ▸ le_top _ x) (hne j hj).symm
  have h3 : ∀ j, j ≤ i → ∃ a, a < i ∧ pick z f j = s a := by
    intro j hj
    obtain ⟨y, hy⟩ := top_mem _ (lt_of_le_of_lt bot_le (h2 j hj))
    have hy' : after z f j y = pick z f j := hy
    rcases after_cases z f j y with e | e
    · exact absurd (hzi.trans_lt (h2 j hj)) (by rw [← hy', e]; exact lt_irrefl z)
    · have hp : pick z f j = f y := hy'.symm.trans e
      have hlt : s i < f y := hp ▸ h2 j hj
      rcases h.rest y with hr | ⟨a, ha, hr⟩
      · exact absurd (hr.trans (h.anti' hi le_rfl)) (not_le.mpr hlt)
      · refine ⟨a, ?_, hp.trans hr⟩
        by_contra hai
        exact absurd (hr ▸ h.anti' (Nat.le_of_not_lt hai) ha.le) (not_le.mpr hlt)
  have h4 : ∀ j, j ≤ i → ∃ a, j ≤ a ∧ a < i ∧ pick z f j = s a := by
    intro j
    induction j with
    | zero =>
      intro hj
      obtain ⟨a, ha, e⟩ := h3 0 hj
      exact ⟨a, Nat.zero_le a, ha, e⟩
    | succ j ih =>
      intro hj
      obtain ⟨a, hja, ha, e⟩ := ih (by omega)
      obtain ⟨b, hb, e'⟩ := h3 (j + 1) hj
      have hlt := pick_succ_lt z f j (hzi.trans_lt (h2 (j + 1) hj))
      rw [e, e'] at hlt
      refine ⟨b, ?_, hb, e'⟩
      by_contra hba
      exact absurd (h.anti' (i := b) (j := a) (by omega) (by omega)) (not_le.mpr hlt)
  obtain ⟨a, h5, h6, -⟩ := h4 i le_rfl
  omega

end Leading

/-- A family cut into blocks, each block's first `n` rounds' entries put together and read in rounds: where the leading
    entries strictly decrease, are not below the filler and are fewer than `n + 1`, they come out in order. -/
theorem pick_merged {ι β κ γ : Type} [Fintype ι] [Fintype κ] [Nonempty κ] [Fintype γ] {z : EReal} {f : ι → EReal} {s : ℕ → EReal} {k n : ℕ}
    (h : Leads z f s k) (hmem : ∀ i, i ≤ k → ∃ x, f x = s i) (hk : k < n)
    (part : β → κ → ι) (hpart : ∀ x, ∃ b l, part b l = x) (cand : γ → EReal)
    (hc : ∀ q, ∃ b j, cand q = pick z (fun l => f (part b l)) j)
    (hc' : ∀ b j, j < n → ∃ q, cand q = pick z (fun l => f (part b l)) j) : pick z cand k = s k := by
  have hb (b : β) : Leads z (fun l => f (part b l)) s k := ⟨h.lt, h.filler, fun l => h.rest (part b l)⟩
  refine pick_eq (f := cand) ⟨h.lt, h.filler, fun q => ?_⟩ (fun i hi => ?_) k le_rfl
  · obtain ⟨b, j, e⟩ := hc q
    rcases pick_cases z (fun l => f (part b l)) j with e' | ⟨l, e'⟩
    · exact Or.inl ((e.trans e').le.trans h.filler)
    · rw [e, e']
      exact h.rest _
  · obtain ⟨x, hx⟩ := hmem i hi
    obtain ⟨b, l, rfl⟩ := hpart x
    obtain ⟨j, hj, e⟩ := pick_of_mem (hb b) hi (x := l) hx
    obtain ⟨q, hq⟩ := hc' b j (by omega)
    exact ⟨q, hq.trans e⟩

/-- The leading entries of a family listed in decreasing order. -/
theorem leads_of_sorted {n : ℕ} {z : EReal} {f : Fin n → EReal} {s : ℕ → EReal} {k : ℕ} (π : Fin n → Fin n) (hπ : Function.Surjective π)
    (hord : ∀ a b : Fin n, a ≤ b → f (π b) ≤ f (π a)) (hs : ∀ a : Fin n, s a = f (π a)) (hk : k < n)
    (lt : ∀ i, i < k → s (i + 1) < s i) (filler : z ≤ s k) : Leads z f s k := by
  refine ⟨lt, filler, fun x => ?_⟩
  obtain ⟨a, rfl⟩ := hπ x
  by_cases ha : a.val < k
  · exact Or.inr ⟨a, ha, (hs a).symm⟩
  · exact Or.inl ((hord ⟨k, hk⟩ a (Nat.le_of_not_lt ha)).trans_eq (hs ⟨k, hk⟩).symm)

end Cert.TopkProof

end
-- ==== Proof.KernelValue.lean ====
/-
# What the kernel computes, element by element

At the ideal instance: the list a device makes of its block holds, in each row, the entries that eight rounds take of
that row of the block (`topOf_apply`), and the result holds what eight rounds take of the four lists put side by side
(`mergeOf_apply`).
-/
module

public import proofs.«01_k».proof.Proof.Protocol
public import proofs.«01_k».proof.Proof.Rounds
public import Idealize.ShloMosaic.Lib.Pointwise

@[expose] public section

noncomputable section

namespace Cert.TopkProof

open Cert.KernelIdeal Cert.KernelIdeal.Gen Idealize.ShloMosaic

/-- The filler. -/
def fill : EReal := Ideal.ofBits .f32 0xFF7FFFFF#32

theorem ofBits_negInf : Ideal.ofBits .f32 0xFF800000#32 = ⊥ := by simp [Ideal.ofBits, Ideal.ieee]

/-- A row of an array of two axes. -/
def rowOf {a b : ℕ} {φ : FTy} (v : FVec Ideal ⟨2, ![a, b]⟩ φ) (r : Fin a) : Fin b → EReal := fun l => v (ix2 r l)

section

variable {F : FTy → Type} [FloatOps F]

/-! ## Rounds over a block of 1024 columns -/

/-- The largest entry of each row, as the kernel takes it. -/
def maxWide (v : FVec F S256x1024 .f32) : FVec F S256x1 .f32 :=
  shapeCast S256x1 (multiReduction .maximumf [1] S256 v 0xFF800000#32 reduces_S256x1024_S256 (.inl rfl) rfl) shapeCasts_S256_S256x1

/-- The block with the largest entries struck out, as the kernel does it. -/
def strikeWide (v : FVec F S256x1024 .f32) : FVec F S256x1024 .f32 :=
  select (cmpf .oeq v (broadcastTo S256x1024 (maxWide v) broadcasts_S256x1_S256x1024)) (broadcast S256x1024 (Scalar.ofBits .f32 0xFF7FFFFF#32)) v

/-- The block after `n` rounds. -/
def roundsWide (v : FVec F S256x1024 .f32) : ℕ → FVec F S256x1024 .f32
  | 0 => v
  | n + 1 => strikeWide (roundsWide v n)

theorem maxWide_apply (v : FVec Ideal S256x1024 .f32) (r : Fin 256) (o : Fin 1) : maxWide v (ix2 r o) = top (rowOf v r) := by
  pointwise [maxWide]
  rw [ofBits_negInf]
  rfl

theorem strikeWide_row (v : FVec Ideal S256x1024 .f32) (r : Fin 256) : rowOf (strikeWide v) r = strike fill (rowOf v r) := by
  funext l
  have h := maxWide_apply v r 0
  unfold rowOf strike strikeWide
  generalize maxWide v = w at h ⊢
  pointwise
  rw [h]
  rfl

theorem roundsWide_row (v : FVec Ideal S256x1024 .f32) (r : Fin 256) (n : ℕ) : rowOf (roundsWide v n) r = after fill (rowOf v r) n := by
  induction n with
  | zero => rfl
  | succ n ih => exact (strikeWide_row _ r).trans (congrArg (strike fill) ih)

/-- What round `n` takes of each row. -/
def pickWide (v : FVec F S256x1024 .f32) (n : ℕ) : FVec F S256x1 .f32 := maxWide (roundsWide v n)

theorem pickWide_apply (v : FVec Ideal S256x1024 .f32) (r : Fin 256) (o : Fin 1) (n : ℕ) : pickWide v n (ix2 r o) = pick fill (rowOf v r) n := by
  unfold pickWide pick
  rw [maxWide_apply, roundsWide_row]

/-! ## Rounds over a block of 32 columns -/

/-- The largest entry of each row, as the kernel takes it. -/
def maxCand (v : FVec F S256x32 .f32) : FVec F S256x1 .f32 :=
  shapeCast S256x1 (multiReduction .maximumf [1] S256 v 0xFF800000#32 reduces_S256x32_S256 (.inl rfl) rfl) shapeCasts_S256_S256x1

/-- The block with the largest entries struck out, as the kernel does it. -/
def strikeCand (v : FVec F S256x32 .f32) : FVec F S256x32 .f32 :=
  select (cmpf .oeq v (broadcastTo S256x32 (maxCand v) broadcasts_S256x1_S256x32)) (broadcast S256x32 (Scalar.ofBits .f32 0xFF7FFFFF#32)) v

/-- The block after `n` rounds. -/
def roundsCand (v : FVec F S256x32 .f32) : ℕ → FVec F S256x32 .f32
  | 0 => v
  | n + 1 => strikeCand (roundsCand v n)

theorem maxCand_apply (v : FVec Ideal S256x32 .f32) (r : Fin 256) (o : Fin 1) : maxCand v (ix2 r o) = top (rowOf v r) := by
  pointwise [maxCand]
  rw [ofBits_negInf]
  rfl

theorem strikeCand_row (v : FVec Ideal S256x32 .f32) (r : Fin 256) : rowOf (strikeCand v) r = strike fill (rowOf v r) := by
  funext l
  have h := maxCand_apply v r 0
  unfold rowOf strike strikeCand
  generalize maxCand v = w at h ⊢
  pointwise
  rw [h]
  rfl

theorem roundsCand_row (v : FVec Ideal S256x32 .f32) (r : Fin 256) (n : ℕ) : rowOf (roundsCand v n) r = after fill (rowOf v r) n := by
  induction n with
  | zero => rfl
  | succ n ih => exact (strikeCand_row _ r).trans (congrArg (strike fill) ih)

/-- What round `n` takes of each row. -/
def pickCand (v : FVec F S256x32 .f32) (n : ℕ) : FVec F S256x1 .f32 := maxCand (roundsCand v n)

theorem pickCand_apply (v : FVec Ideal S256x32 .f32) (r : Fin 256) (o : Fin 1) (n : ℕ) : pickCand v n (ix2 r o) = pick fill (rowOf v r) n := by
  unfold pickCand pick
  rw [maxCand_apply, roundsCand_row]

/-! ## The two lists -/

/-- Eight columns side by side. -/
def columns (p : ℕ → FVec F S256x1 .f32) : FVec F S256x8 .f32 :=
  concatenate S256x8 1 [⟨S256x1, p 0⟩, ⟨S256x1, p 1⟩, ⟨S256x1, p 2⟩, ⟨S256x1, p 3⟩, ⟨S256x1, p 4⟩, ⟨S256x1, p 5⟩, ⟨S256x1, p 6⟩, ⟨S256x1, p 7⟩]
    concatenates_S256x1_S256x1_S256x1_S256x1_S256x1_S256x1_S256x1_S256x1_S256x8_d1

theorem columns_apply (p : ℕ → FVec F S256x1 .f32) (r : Fin 256) (k : Fin 8) : columns p (ix2 r k) = p k (ix2 r 0) := by
  pointwise [columns]
  fin_vals k with hk
  all_goals simp only [hk, Nat.reduceSub, Nat.reduceLT, ↓reduceDIte]
  all_goals rfl

theorem topOf_eq (v : Vec F S256x1024 .bf16) :
    topOf v = shapeCast S1x256x8 (columns (pickWide (k0_pay2 v))) shapeCasts_S256x8_S1x256x8 := rfl

theorem mergeOf_eq (a b d e : Vec F S1x256x8 .f32) : mergeOf a b d e = columns (pickCand (k0_pay17 a b d e)) := rfl

end

/-- A device's list: row `r` holds what eight rounds take of row `r` of its block. -/
theorem topOf_apply (v : Vec Ideal S256x1024 .bf16) (r : Fin 256) (k : Fin 8) (o : Fin 1) :
    topOf v (ix3 o r k) = pick fill (rowOf (φ := .bf16) v r) k := by
  have h : rowOf (k0_pay2 v) r = rowOf (φ := .bf16) v r := by
    funext l
    unfold rowOf
    pointwise [k0_pay2]
  rw [← h, ← pickWide_apply (k0_pay2 v) r 0 k, ← columns_apply (pickWide (k0_pay2 v)) r k, topOf_eq]
  pointwise

/-- Where the four lists lie when they are put side by side. -/
theorem lists_apply (a b d e : Vec Ideal S1x256x8 .f32) (r : Fin 256) (q : Fin 32) :
    rowOf (k0_pay17 a b d e) r q
      = (![a, b, d, e] : Fin 4 → Vec Ideal S1x256x8 .f32) ⟨q / 8, by omega⟩ (ix3 0 r ⟨q % 8, by omega⟩) := by
  unfold rowOf
  pointwise [k0_pay17]
  fin_vals q with hq
  all_goals simp only [hq, Nat.reduceSub, Nat.reduceLT, Nat.reduceDiv, Nat.reduceMod, ↓reduceDIte]
  all_goals rfl

/-- The result: row `r` holds what eight rounds take of the four lists' rows `r`. -/
theorem mergeOf_apply (a b d e : Vec Ideal S1x256x8 .f32) (r : Fin 256) (k : Fin 8) :
    mergeOf a b d e (ix2 r k) = pick fill (rowOf (k0_pay17 a b d e) r) k := by
  rw [mergeOf_eq, columns_apply, pickCand_apply]

end Cert.TopkProof

end
-- ==== Proof.Sorted.lean ====
/-
  What the reference and the mask read: the sorted entries of each row.  Both take row `r` of the array, sort
  the positions by the negated entries and gather the entries at the first eight positions.  Read at an index,
  that is entry `order r k` of the row, where `order r` lists all positions of the row so that the entries
  descend along it.
-/
module

public import proofs.«01_k».proof.On_untied
public import proofs.«01_k».proof.Proof.Gen.On_untied
public import proofs.«01_k».proof.Proof.Rounds
public import Idealize.ShloMosaic.Lib.SortFacts
public import Idealize.ShloMosaic.Lib.Pointwise
public import Idealize.ShloMosaic.Lib.StableHlo.Predicate

@[expose] public section

noncomputable section

namespace Cert.TopkProof

open Cert.On_untied Cert.On_untied.Gen Idealize.ShloMosaic

/-! ## The sort -/

theorem comes_first (a b : EReal × BitVec 32) : (comparator_f32_i32_d1 (F := Ideal) a b == 1#1) = decide (a.1 < b.1) := by
  unfold comparator_f32_i32_d1
  pointwise
  have hc : ∀ x : EReal, (if x ≠ x then Ideal.ofBits .f32 2143289344#32 else if x = 0 then 0 else x) = x := by
    intro x
    rw [if_neg (not_not_intro rfl)]
    split <;> simp_all
  rw [hc, hc]
  show (BitVec.ofBool (decide (a.1 < b.1)) == 1#1) = _
  by_cases h : a.1 < b.1 <;> simp [h]

/-- The order of row `r`: its positions, the least entry of `y` first. -/
def order (y : FVec Ideal S256x4096 .f32) (r : Fin 256) : Fin 4096 → Fin 4096 :=
  sortedFrom fun a b => decide (y (ix2 r a) < y (ix2 r b))

theorem along_row (r : Fin 256) (k c : Fin 4096) (h : 1 < S256x4096.rank) :
    (ix2 r k : S256x4096.Idx).along ⟨1, h⟩ c = ix2 r c := by
  funext a
  match a with
  | ⟨0, _⟩ => rfl
  | ⟨1, _⟩ => rfl

theorem argsort_apply (y : FVec Ideal S256x4096 .f32) (r : Fin 256) (k : Fin 4096) :
    fn_argsort y (ix2 r k) = BitVec.ofNat 32 (order y r k) := by
  have h : (1 : ℕ) < S256x4096.rank := by decide
  have hb : (fun a b : Fin 4096 => comparator_f32_i32_d1 (F := Ideal)
        (y ((ix2 r k : S256x4096.Idx).along ⟨1, h⟩ a), iotaInDim S256x4096 32 1 ((ix2 r k : S256x4096.Idx).along ⟨1, h⟩ a))
        (y ((ix2 r k : S256x4096.Idx).along ⟨1, h⟩ b), iotaInDim S256x4096 32 1 ((ix2 r k : S256x4096.Idx).along ⟨1, h⟩ b)) == 1#1)
      = fun a b => decide (y (ix2 r a) < y (ix2 r b)) := by
    funext a b
    rw [comes_first, along_row, along_row]
  unfold fn_argsort Host.sort2
  dsimp only
  rw [dif_pos h]
  show iotaInDim S256x4096 32 1 ((ix2 r k : S256x4096.Idx).along ⟨1, h⟩ (sortedFrom (n := 4096) _ k)) = _
  rw [along_row]
  exact congrArg (fun p => BitVec.ofNat 32 (sortedFrom (n := 4096) p k : ℕ)) hb

theorem eq_zero_of_ne_one {v : BitVec 1} (h : v ≠ 1#1) : v = 0#1 := by
  revert v
  decide

/-! ## Reading the entries at the positions -/

/-- The dimension numbers of the gather: one entry of row `r` for each start index of row `r`. -/
abbrev rowwise : GatherDims S256x4096 S256x8x1 S256x8 := gather_S256x4096_S256x8x1_S256x8_n_1_0_0_1_2_11

theorem batch_axis (i : ℕ) (hi : i < rowwise.batchDims.length) : (rowwise.batchDims[i] : ℕ) = i := by
  have h : rowwise.batchDims = [0, 1] := by decide
  rw [List.getElem_of_eq h]
  have hi' : i < 2 := by rw [h] at hi; exact hi
  match i, hi' with
  | 0, _ => rfl
  | 1, _ => rfl

/-- The start indices' first two axes are read at the result's. -/
theorem coord_apply (r : Fin 256) (k : Fin 8) (b : Fin 3) (hb : b ∈ rowwise.siKept) :
    (rowwise.siCoord (ix2 r k) b hb : ℕ) = if b = 0 then (r : ℕ) else k := by
  have hr : ∀ X : Fin 2, (X : ℕ) = 0 → (ix2 r k X : ℕ) = r := fun X h => by obtain rfl : X = 0 := Fin.ext h; rfl
  have hk : ∀ X : Fin 2, (X : ℕ) = 1 → (ix2 r k X : ℕ) = k := fun X h => by obtain rfl : X = 1 := Fin.ext h; rfl
  unfold GatherDims.siCoord
  simp only [Fin.val_cast]
  match b with
  | 0 => exact hr _ ((batch_axis _ _).trans (by decide))
  | 1 => exact hk _ ((batch_axis _ _).trans (by decide))
  | 2 => exact absurd hb (by decide)

theorem gather_apply (x : FVec Ideal S256x4096 .f32) (idx : IVec S256x8x1 32) (r : Fin 256) (k : Fin 8) (b : Fin 4096)
    (h : idx (ix3 r k 0) = BitVec.ofNat 32 b) : Host.gather rowwise x idx (ix2 r k) = x (ix2 r b) := by
  have hb := b.isLt
  have hi : ∀ c, rowwise.siIdx (ix2 r k) c = ix3 r k 0 := by
    intro c
    funext a
    refine Fin.ext ?_
    unfold GatherDims.siIdx
    match a with
    | 0 => rw [dif_neg (by decide)]; exact coord_apply r k 0 _
    | 1 => rw [dif_neg (by decide)]; exact coord_apply r k 1 _
    | 2 =>
      rw [dif_pos (by decide)]
      exact Nat.lt_one_iff.mp c.isLt
  unfold Host.gather
  refine congrArg x (funext fun a => Fin.ext ?_)
  show rowwise.start (ix2 r k) idx a + rowwise.batchCoord (ix2 r k) a + rowwise.offCoord (ix2 r k) a = _
  match a with
  | 0 =>
    rw [rowwise.start_batching _ _ _ (by decide), rowwise.offCoord_eq_zero _ _ (by decide)]
    unfold GatherDims.batchCoord
    rw [dif_pos (by decide)]
    simp only [Nat.zero_add, Nat.add_zero]
    exact coord_apply r k 0 _
  | 1 =>
    rw [rowwise.batchCoord_eq_zero _ _ (by decide), rowwise.offCoord_eq_zero _ _ (by decide)]
    unfold GatherDims.start
    rw [dif_pos (by decide), hi, h, StableHlo.Predicate.toInt_ofNat_small _ (by omega)]
    show min (b : ℕ) 4095 + 0 + 0 = b
    omega

theorem take_apply (x : FVec Ideal S256x4096 .f32) (idx : IVec S256x8 32) (r : Fin 256) (k : Fin 8) (b : Fin 4096)
    (h : idx (ix2 r k) = BitVec.ofNat 32 b) : fn_take_along_axis x idx (ix2 r k) = x (ix2 r b) := by
  have hb := b.isLt
  have h0 : IntOp.cmpi .slt (BitVec.ofNat 32 b) 0#32 = 0#1 := eq_zero_of_ne_one fun h => absurd ((StableHlo.Predicate.slt_ofNat_iff b 0 (by omega) (by omega)).mp h) (by omega)
  have h1 : IntOp.cmpi .sge (BitVec.ofNat 32 b) 0#32 = 1#1 := by
    exact (StableHlo.Predicate.sle_ofNat_iff 0 b (by omega) (by omega)).mpr (by omega)
  have h2 : IntOp.cmpi .sle (BitVec.ofNat 32 b) 4095#32 = 1#1 := (StableHlo.Predicate.sle_ofNat_iff b 4095 (by omega) (by omega)).mpr (by omega)
  unfold fn_take_along_axis
  pointwise
  rw [show Host.gather gather_S256x4096_S256x8x1_S256x8_n_1_0_0_1_2_11 x _ (ix2 r k) = _ from gather_apply x _ r k b (by pointwise; rw [h, h0]; rfl), h, h0]
  have hs : ∀ x y : BitVec 32, Scalar.select 0#1 x y = y := fun _ _ => rfl
  simp only [hs, h1, h2]
  rfl

/-! ## The leading entries -/

section

variable {F : FTy → Type} [FloatOps F]

/-- The array in the wider format. -/
def widened (x : FVec F S256x4096 .bf16) : FVec F S256x4096 .f32 := extf .f32 x bitsLt_bf16_f32

/-- The eight leading entries of each row. -/
def leading (x : FVec F S256x4096 .bf16) : FVec F S256x8 .f32 :=
  fn_take_along_axis (widened x)
    (extractStridedSlice S256x8 ![0, 0] (fn_argsort (Host.negf (widened x))) slices_S256x4096_S256x8_0_0)

/-- The eight columns of an array, and after them its last one again. -/
def column (s : FVec F S256x8 .f32) : ℕ → FVec F S256x1 .f32
  | 0 => extractStridedSlice S256x1 ![0, 0] s slices_S256x8_S256x1_0_0
  | 1 => extractStridedSlice S256x1 ![0, 1] s slices_S256x8_S256x1_0_1
  | 2 => extractStridedSlice S256x1 ![0, 2] s slices_S256x8_S256x1_0_2
  | 3 => extractStridedSlice S256x1 ![0, 3] s slices_S256x8_S256x1_0_3
  | 4 => extractStridedSlice S256x1 ![0, 4] s slices_S256x8_S256x1_0_4
  | 5 => extractStridedSlice S256x1 ![0, 5] s slices_S256x8_S256x1_0_5
  | 6 => extractStridedSlice S256x1 ![0, 6] s slices_S256x8_S256x1_0_6
  | _ => extractStridedSlice S256x1 ![0, 7] s slices_S256x8_S256x1_0_7

/-- Column `n` is not below the filler. -/
def aboveFiller (s : FVec F S256x8 .f32) (n : ℕ) : IVec S256x1 1 :=
  cmpf .oge (column s n) (broadcastInDim S256x1 ![] bcast_S_S256x1 (constant S_ .f32 0xFF7FFFFF#32))

/-- Columns `0` to `n` decrease strictly and are not below the filler. -/
def clear (s : FVec F S256x8 .f32) : ℕ → IVec S256x1 1
  | 0 => aboveFiller s 0
  | n + 1 => andi (andi (clear s n) (cmpf .ogt (column s n) (column s (n + 1)))) (aboveFiller s (n + 1))

theorem mask_eq (x : FVec F S256x4096 .bf16) :
    fn x = concatenate S256x8 1 [⟨S256x1, clear (leading x) 0⟩, ⟨S256x1, clear (leading x) 1⟩, ⟨S256x1, clear (leading x) 2⟩,
        ⟨S256x1, clear (leading x) 3⟩, ⟨S256x1, clear (leading x) 4⟩, ⟨S256x1, clear (leading x) 5⟩, ⟨S256x1, clear (leading x) 6⟩,
        ⟨S256x1, clear (leading x) 7⟩]
      concatenates_S256x1_S256x1_S256x1_S256x1_S256x1_S256x1_S256x1_S256x1_S256x8_d1 := rfl

theorem mask_apply (x : FVec F S256x4096 .bf16) (r : Fin 256) (k : Fin 8) : fn x (ix2 r k) = clear (leading x) k (ix2 r 0) := by
  rw [mask_eq]
  generalize clear (leading x) = p
  pointwise
  fin_vals k with hk
  all_goals simp only [hk, Nat.reduceSub, Nat.reduceLT, ↓reduceDIte]
  all_goals rfl

end

/-- Entry `n` of row `r` of an array of eight columns, for every number `n`. -/
def entry (s : FVec Ideal S256x8 .f32) (r : Fin 256) (n : ℕ) : EReal := column s n (ix2 r 0)

theorem entry_apply (s : FVec Ideal S256x8 .f32) (r : Fin 256) (k : Fin 8) : entry s r k = s (ix2 r k) := by
  unfold entry
  fin_cases k
  all_goals
    show column s _ (ix2 r 0) = s (ix2 r _)
    pointwise [column]

theorem leading_apply (x : FVec Ideal S256x4096 .bf16) (r : Fin 256) (k : Fin 8) :
    leading x (ix2 r k) = x (ix2 r (order (fun i => -x i) r ⟨k, by omega⟩)) := by
  unfold leading
  rw [take_apply _ _ r k (order (Host.negf (widened x)) r ⟨k, by omega⟩)
    (by
      rw [← argsort_apply]
      generalize fn_argsort (Host.negf (widened x)) = y
      pointwise)]
  have h : Host.negf (widened x) = fun i => -x i := by
    funext i
    rfl
  rw [h]
  rfl

theorem aboveFiller_iff (s : FVec Ideal S256x8 .f32) (r : Fin 256) (n : ℕ) :
    aboveFiller s n (ix2 r 0) = 1#1 ↔ Ideal.ofBits .f32 0xFF7FFFFF#32 ≤ entry s r n :=
  (StableHlo.Predicate.ofBool_eq_one_iff _).trans decide_eq_true_iff

theorem andi_iff (a b : BitVec 1) : IntOp.andi a b = 1#1 ↔ a = 1#1 ∧ b = 1#1 := by
  revert a b
  decide

theorem clear_iff (s : FVec Ideal S256x8 .f32) (r : Fin 256) (n : ℕ) (h : clear s n (ix2 r 0) = 1#1) :
    (∀ i, i < n → entry s r (i + 1) < entry s r i) ∧ Ideal.ofBits .f32 0xFF7FFFFF#32 ≤ entry s r n := by
  induction n with
  | zero => exact ⟨fun i hi => absurd hi (Nat.not_lt_zero i), (aboveFiller_iff s r 0).mp h⟩
  | succ n ih =>
    obtain ⟨h1, h2⟩ := (andi_iff _ _).mp (show IntOp.andi (IntOp.andi (clear s n (ix2 r 0)) _) (aboveFiller s (n + 1) (ix2 r 0)) = 1#1 from h)
    obtain ⟨h3, h4⟩ := (andi_iff _ _).mp h1
    refine ⟨fun i hi => ?_, (aboveFiller_iff s r (n + 1)).mp h2⟩
    rcases Nat.lt_succ_iff_lt_or_eq.mp hi with hi | rfl
    · exact (ih h3).1 i hi
    · exact decide_eq_true_iff.mp ((StableHlo.Predicate.ofBool_eq_one_iff _).mp h4)

/-! ## The order descends -/

theorem order_surjective (y : FVec Ideal S256x4096 .f32) (r : Fin 256) : Function.Surjective (order y r) :=
  sortedFrom_surjective _

theorem order_le (y : FVec Ideal S256x4096 .f32) (r : Fin 256) (a b : Fin 4096) (h : a ≤ b) :
    y (ix2 r (order y r a)) ≤ y (ix2 r (order y r b)) := by
  rcases lt_or_eq_of_le h with h | rfl
  · refine not_lt.mp fun hlt => ?_
    have := sortedFrom_noInversion (fun a b => decide (y (ix2 r a) < y (ix2 r b))) (fun a b => decide (y (ix2 r a) < y (ix2 r b)))
      (fun a b h => by simp only [decide_eq_true_eq, decide_eq_false_iff_not, not_lt] at h ⊢; exact h.le) (fun _ _ h => h)
      (fun a b c h1 h2 => by simp only [decide_eq_false_iff_not, not_lt] at h1 h2 ⊢; exact h2.trans h1) a b h
    exact absurd hlt (decide_eq_false_iff_not.mp this)
  · exact le_rfl

/-- Where the mask is set at `(r, k)`, the leading entries lead row `r` as far as `k`. -/
theorem leads_of_mask (x : FVec Ideal S256x4096 .bf16) (r : Fin 256) (k : Fin 8) (h : fn x (ix2 r k) = 1#1) :
    Leads (Ideal.ofBits .f32 0xFF7FFFFF#32) (fun l => x (ix2 r l))
      (fun n => if hn : n < 4096 then x (ix2 r (order (fun i => -x i) r ⟨n, hn⟩)) else ⊥) k := by
  rw [mask_apply] at h
  obtain ⟨h1, h2⟩ := clear_iff _ r k h
  have he : ∀ n, n < 8 → entry (leading x) r n = if hn : n < 4096 then x (ix2 r (order (fun i => -x i) r ⟨n, hn⟩)) else ⊥ := by
    intro n hn
    rw [dif_pos (show n < 4096 by omega)]
    exact (entry_apply _ r ⟨n, hn⟩).trans (leading_apply x r ⟨n, hn⟩)
  have hk := k.isLt
  refine leads_of_sorted (order (fun i => -x i) r) (order_surjective _ r) (fun a b hab => ?_) (fun a => dif_pos a.isLt) (by omega)
    (fun i hi => ?_) ?_
  · exact EReal.neg_le_neg_iff.mp (order_le (fun i => -x i) r a b hab)
  · rw [← he i (by omega), ← he (i + 1) (by omega)]
    exact h1 i hi
  · rw [← he k hk]
    exact h2

end Cert.TopkProof

end
-- ==== Proof.Body.lean ====
/-
# One device's kernel, from start to end

What a device starts from and ends with, and the execution of its program in between, effect by effect.
-/
module

public import proofs.«01_k».proof.Proof.Protocol
public import Idealize.ShloMosaic.Lib.Ring.FamCut

@[expose] public section

noncomputable section

namespace Cert.TopkProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- The kernel's result on device `c`: the list made of its own list and its partners'. -/
def outAt (c : Dev nD) : (cc0_stg1_0 : Ref sig .tc).ty.Contents (Elt F) :=
  mergeOf (tops m ρ c) (tops m ρ (peer 0 c)) (tops m ρ (peer 1 c)) (tops m ρ (peer 2 c))

/-- Every cell's invariant, under the names `K`, and that every cell is at its first round. -/
def records (K : Dev nD × XSem → ℕ) : sProp 𝕄 :=
  iprop((bigSep Finset.univ fun ck : Dev nD × XSem => cellInv EX (sched m ρ) (K ck) (xcell ck))
    ∗ bigSep Finset.univ fun ck : Dev nD × XSem => reached EX (xcell ck) 0)

instance records_persistent (K : Dev nD × XSem → ℕ) : BI.Persistent (records m ρ K) := by unfold records; infer_instance

theorem inv_of (K : Dev nD × XSem → ℕ) (ck : Dev nD × XSem) :
    (bigSep Finset.univ fun ck : Dev nD × XSem => (cellInv EX (sched m ρ) (K ck) (xcell ck) : sProp 𝕄))
      ⊢ cellInv EX (sched m ρ) (K ck) (xcell ck) := bigSep_elim (Finset.mem_univ ck)
theorem inv_at (K : Dev nD × XSem → ℕ) (ck : Dev nD × XSem) : records m ρ K ⊢ cellInv EX (sched m ρ) (K ck) (xcell ck) := by
  unfold records
  iintro ⟨H, -⟩
  iapply (inv_of m ρ K ck)
  iexact H

omit [FloatOps F] in
theorem reached_of (ck : Dev nD × XSem) :
    (bigSep Finset.univ fun ck : Dev nD × XSem => (reached EX (xcell ck) 0 : sProp 𝕄)) ⊢ reached EX (xcell ck) 0 :=
  bigSep_elim (Finset.mem_univ ck)
theorem reached_at (K : Dev nD × XSem → ℕ) (ck : Dev nD × XSem) : records m ρ K ⊢ reached EX (xcell ck) 0 := by
  unfold records
  iintro ⟨-, H⟩
  iapply (reached_of ck)
  iexact H

/-- What device `c` pays with at offset `o`: the right to raise that partner's meeting semaphore, its own send
    semaphore, and that partner's receive semaphore. -/
def payTok (c : Dev nD) (o : Fin 3) : sProp 𝕄 :=
  iprop(dutyTok EX (barCell (peer o c)) 0 o ∗ dutyTok EX (sendCell c o) 0 0 ∗ dutyTok EX (recvCell (peer o c) (rev o)) 0 0)

/-- What device `c` waits with at offset `o`, besides the meeting: its places at its send and receive semaphore, and
    the bytes that are to come in. -/
def waitTok (c : Dev nD) (o : Fin 3) : sProp 𝕄 :=
  iprop(atPos EX (sendCell c o) 0 ∅ 0 ∗ atPos EX (recvCell c o) 0 ∅ 0 ∗ cred (tallyAt (recvCell c o) () N))

/-- The two semaphores (one of each array, at index 0) that the kernel holds and never uses. -/
def idle (c : Dev nD) : sProp 𝕄 :=
  iprop(semVal ((c : Thread nD τ), .dma (2 : Fin 10)) 0 ∗ semVal ((c : Thread nD τ), .dma (6 : Fin 10)) 0)

def start (c : Dev nD) : sProp 𝕄 :=
  iprop((∃ K, records m ρ K) ∗ (atPos EX (barCell c) 0 ∅ 0 ∗ cred (tallyAt (barCell c) () 3))
    ∗ (waitTok c 0 ∗ waitTok c 1 ∗ waitTok c 2) ∗ (payTok c 0 ∗ payTok c 1 ∗ payTok c 2) ∗ idle c ∗ levAts L lv)

/-- The exchange buffer at some contents. -/
def anyBuf (c : Dev nD) : sProp 𝕄 := iprop(∃ f : Buf (Elt F) (bLoc c), bLoc c ↦{fullShare} f)

def Φ₀ (c : Dev nD) : sProp 𝕄 := iprop(start m ρ c ∗ anyBuf c)
/-- At the end: the exchange buffer, and every semaphore at zero. -/
def Φ₁ (c : Dev nD) : sProp 𝕄 :=
  iprop(anyBuf (F := F) c ∗ semVal (barCell c) 0 ∗ (semVal (sendCell c 0) 0 ∗ semVal (sendCell c 1) 0 ∗ semVal (sendCell c 2) 0)
    ∗ (semVal (recvCell c 0) 0 ∗ semVal (recvCell c 1) 0 ∗ semVal (recvCell c 2) 0) ∗ idle c)

def t₀ : Fin cfg0.N := t0_0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The exchange buffer, cut into its slots -/

omit [FloatOps F] in
theorem slots_disjoint (i j : Fin 4) (h : i ≠ j) : Disjoint (slotV i).set (slotV j).set := by
  rw [Finset.disjoint_left]
  intro x hi hj
  obtain ⟨a, -, rfl⟩ := Finset.mem_map.mp hi
  obtain ⟨b, -, hb⟩ := Finset.mem_map.mp hj
  have h0 := congrArg (fun x : S4x256x8.Idx => (x 0).val) hb
  have ha := (a 0).isLt
  have hb' := (b 0).isLt
  apply h
  apply Fin.ext
  have e1 : ((slotV j).emb b 0).val = j.val + 1 * (b 0).val := rfl
  have e2 : ((slotV i).emb a 0).val = i.val + 1 * (a 0).val := rfl
  have h1 : S1x256x8.size 0 = 1 := rfl
  change (a 0).val < S1x256x8.size 0 at ha
  change (b 0).val < S1x256x8.size 0 at hb'
  change ((slotV j).emb b 0).val = ((slotV i).emb a 0).val at h0
  omega

/-- The slots as sets of elements, and what they leave of the buffer (nothing; carried along all the same). -/
abbrev slotSet (c : Dev nD) (j : Fin 4) : Finset (Idx (bLoc c)) := (slotV j).set
def restAny (c : Dev nD) : sProp 𝕄 := iprop(∃ f : Buf (Elt F) (bLoc c), bLoc c ↦[Idealize.ShloMosaic.Ring.restOf (slotSet c)]{fullShare} f)

omit [FloatOps F] in
theorem bigSep_slots (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem cut_slots (c : Dev nD) :
    anyBuf (F := F) c ⊢ iprop((slotAny c 0 ∗ slotAny c 1 ∗ slotAny c 2 ∗ slotAny c 3) ∗ restAny c) := by
  rw [← bigSep_slots (F := F) (fun j => slotAny c j)]
  exact Idealize.ShloMosaic.Ring.fam_split_ex (slotSet c) (fun i j h => slots_disjoint i j h)

omit [FloatOps F] in
theorem join_slots (c : Dev nD) (f₀ : Buf (Elt F) (bLoc c)) :
    iprop((slotAny c 0 ∗ slotAny c 1 ∗ slotAny c 2 ∗ slotAny c 3) ∗ restAny c) ⊢ anyBuf (F := F) c := by
  rw [← bigSep_slots (F := F) (fun j => slotAny c j)]
  exact Idealize.ShloMosaic.Ring.fam_join (slotSet c) (fun i j h => slots_disjoint i j h) f₀

omit [FloatOps F] in
theorem slotAny_of (c : Dev nD) (j : Fin 4) (X) : slotAt m c j fullShare X ⊢ slotAny (F := F) c j := by
  unfold slotAt slotAny
  iintro H; iexists _; iexact H

omit [FloatOps F] in
/-- A slot held whole is the slot held in the three shares lent to the copies. -/
theorem lend (c : Dev nD) (j : Fin 4) (X) :
    (slotAt m c j fullShare X : sProp 𝕄) ⊣⊢ iprop(slotAt m c j (lent 0) X ∗ slotAt m c j (lent 1) X ∗ slotAt m c j (lent 2) X) := by
  unfold slotAt
  have h1 := pointsTo_share (Ix := Unit) (Name := ℕ) (U := UU) (Lvl := ℕ) (ℓ := bLoc c) (I := (slotV j).set) (f := filled m c j X) (PosShare.mem_left_op_right fullShare)
  have h2 := pointsTo_share (Ix := Unit) (Name := ℕ) (U := UU) (Lvl := ℕ) (ℓ := bLoc c) (I := (slotV j).set) (f := filled m c j X) (PosShare.mem_left_op_right fullShare.right)
  exact ⟨h1.1.trans (sep_mono_right h2.1), (sep_mono_right h2.2).trans h1.2⟩

/-! ## One rule per effect -/

section Steps

variable (K : Dev nD × XSem → ℕ) {α : Type}

theorem mem_duties (c : Dev nD) (k : XSem) {d : Fin 3} (h : d ∈ dutiesOf k) : d ∈ (sched (F := F) m ρ).duties (xcell (c, k)) 0 := by
  rw [duties_at]; exact h

theorem pay_meet (c : Dev nD) (o : Fin 3) :
    slotAny (F := F) c o.succ = (sched m ρ).payload ((peer o c : Thread nD τ), .reg barS) 0 o := by
  refine Eq.trans ?_ (payload_at m ρ (peer o c) (.inl ()) o).symm
  show _ = slotAny (peer (rev o) (peer o c)) o.succ
  rw [peer_rev]

omit [FloatOps F] in
/-- Slot 0 as a copy reads it. -/
theorem sent_eq (c : Dev nD) (q : PosShare TreeShare) (X : S1x256x8.Idx → Elt F .f32) :
    (((slotM 0).view.loc (c : Thread nD τ)) ↦[(slotM 0).view.set]{q} filled m c 0 X : sProp 𝕄) = slotAt m c 0 q X := by
  rw [slotM_set]; rfl

/-- The partner's slot as a copy leaves it. -/
theorem landed_eq (c : Dev nD) (o : Fin 3) (fd : Buf (Elt F) (bLoc (peer o c))) :
    (((slotM (rev o).succ).view.loc (peer o c : Thread nD τ)) ↦[(slotM (rev o).succ).view.set]{fullShare}
        (slotM (rev o).succ).view.write (Elt F) fd ((slotM 0).view.read (Elt F) (filled m c 0 (tops m ρ c))) Finset.univ : sProp 𝕄)
      = recvPay m ρ (peer o c) (rev o) := by
  unfold recvPay
  rw [peer_rev, slotM_set]
  refine Eq.trans ?_ (slotAt_of_write m (peer o c) (rev o).succ fullShare (tops m ρ c) fd)
  exact congrArg (fun g : Buf (Elt F) (bLoc (peer o c)) => (bLoc (peer o c) ↦[(slotV (rev o).succ).set]{fullShare} g : sProp 𝕄)) (copy_eq m c (peer o c) 0 (rev o).succ (tops m ρ c) fd)

/-- Raising the meeting semaphore of the partner at offset `o`, which lends it slot `o + 1`. -/
theorem wp_meet (c n : Dev nD) (o : Fin 3) (hn : n = peer o c) (O : CellTallies nD τ sig Unit) (W : Waits sig Unit)
    {Q : α → sProp 𝕄} {k : PUnit → Prog (TpuEff nD τ sig (Elt F) Λ₀ .tc) α} :
    iprop(records m ρ K ∗ owes (c : Thread nD τ) (O + tallyAt (barCell (peer o c)) () 1) W
        ∗ dutyTok EX (barCell (peer o c)) 0 o ∗ slotAny c o.succ)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Ht, Hs⟩
  iapply (Rounds.wp_signal 𝒱₀ EX (sched m ρ) (c : Thread nD τ) none (dst := (peer o c : Thread nD τ)) (κ := K (peer o c, .inl ())) (r := 0)
      (d := o) (mem_duties m ρ (peer o c) (.inl ()) (Finset.mem_univ o))
      (amount_at m ρ (peer o c) (.inl ()) o) () O rfl)
  isplitr; · iapply (inv_at m ρ K (peer o c, .inl ())); iexact HR
  isplitl [HO]; · iexact HO
  isplitl [Ht]; · iexact Ht
  isplitl [Hs]
  · iapply (Entails.of_eq (pay_meet m ρ c o))
    iexact Hs
  · iapply (reached_at m ρ K (peer o c, .inl ())); iexact HR

/-- The meeting's wait: the three partners have each lent a slot. -/
theorem wp_met (c : Dev nD) (W : Waits sig Unit) {Q : α → sProp 𝕄} {k : PUnit → Prog (TpuEff nD τ sig (Elt F) Λ₀ .tc) α} :
    iprop(records m ρ K ∗ levAts L lv ∗ cred (tallyAt (barCell c) () 3) ∗ owes (c : Thread nD τ) (owesCopies c) W ∗ atPos EX (barCell c) 0 ∅ 0)
      ⊢ iprop(((∃ W, owes (c : Thread nD τ) (owesCopies c) W) ∗ semVal (barCell c) 0
            ∗ slotAny (peer 2 c) 1 ∗ slotAny (peer 1 c) 2 ∗ slotAny (peer 0 c) 3 -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, #Hlev, Hc, HO, Hat⟩ Hk
  iapply (Rounds.wp_wait_rest_token 𝒱₀ EX (sched m ρ) (c : Thread nD τ) none (κ := K (c, .inl ()))
      (wpE_semWait_eq 𝒱₀ (c : Thread nD τ) none Set.univ) (Set.mem_univ _) () (O := owesCopies c) (W := W) (R := 0) (m := 0) (T := ∅)
      (by rw [expect_bar])) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨H0, H1, H2⟩
  imod (Rounds.cell_close EX (sched m ρ) (Set.mem_univ (K (c, .inl ()))) (fun h => h) (R := 0 + 1) (duties_later m ρ (barCell c))) $$ [Hat] with Hz
  · isplitr; · iapply (inv_at m ρ K (c, .inl ())); iexact HR
    iexact Hat
  unfold barPay
  iapply Hk
  isplitl [HO]; · iexists _; iexact HO
  isplitl [Hz]; · iexact Hz
  isplitl [H0]; · iexact H0
  isplitl [H1]; · iexact H1
  iexact H2

/-- The copy to the partner at offset `o`. -/
theorem wp_copy (c n : Dev nD) (o : Fin 3) (hn : n = peer o c) (O : CellTallies nD τ sig Unit) (W : Waits sig Unit)
    {hsc : (slotM (rev o).succ : Memref sig (Dev.tc n : Thread nD τ).2.kind .vmem S256x8 .f32).view.ref.isScScratch = false}
    {hsrc : (slotM 0).view.WordExact} {hdst : (slotM (rev o).succ).view.WordExact}
    {hsem : DmaTarget.Typed .vmem (.dma (rS (rev o))) (.remote (Dev.tc n : Thread nD τ) (slotM (rev o).succ) (.dma (sS o)) hsc)}
    {Q : α → sProp 𝕄} {k : PUnit → Prog (TpuEff nD τ sig (Elt F) Λ₀ .tc) α} :
    iprop(records m ρ K ∗ slotAt m c 0 (lent o) (tops m ρ c) ∗ slotAny (peer o c) (rev o).succ
        ∗ owes (c : Thread nD τ) (O + tallyAt (recvCell (peer o c) (rev o)) () N) W
        ∗ dutyTok EX (sendCell c o) 0 0 ∗ dutyTok EX (recvCell (peer o c) (rev o)) 0 0)
      ⊢ iprop(((cred (tallyAt (sendCell c o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (slotM 0) (.remote (Dev.tc n : Thread nD τ) (slotM (rev o).succ) (.dma (sS o)) hsc) (.dma (rS (rev o))) hsrc hdst hsem) k) Q) := by
  subst hn
  unfold slotAny
  iintro ⟨#HR, Hsrc, ⟨%fd, Hdst⟩, HO, Hts, Htr⟩
  iapply (Rounds.wp_send_pointsTo 𝒱₀ EX (sched m ρ) (c : Thread nD τ) none (κ₁ := K (c, .inr (.inl o))) (κ₂ := K (peer o c, .inr (.inr (rev o))))
    (c' := (peer o c : Thread nD τ)) (src := slotM 0) (dst := slotM (rev o).succ)
    (r₁ := 0) (r₂ := 0) (d₁ := (0 : Fin 3)) (d₂ := (0 : Fin 3)) (q := lent o) (fs := filled m c 0 (tops m ρ c)) (fd := fd)
    (mem_duties m ρ c (.inr (.inl o)) (Finset.mem_singleton_self _))
    (mem_duties m ρ (peer o c) (.inr (.inr (rev o))) (Finset.mem_singleton_self _))
    () () N (slot_credit _) (amount_at m ρ c (.inr (.inl o)) 0) (amount_at m ρ (peer o c) (.inr (.inr (rev o))) 0) O rfl (W := W)
    (Entails.of_eq ((sent_eq m c (lent o) (tops m ρ c)).trans (payload_at m ρ c (.inr (.inl o)) 0).symm))
    (Entails.of_eq ((landed_eq m ρ c o fd).trans (payload_at m ρ (peer o c) (.inr (.inr (rev o))) 0).symm)))
  isplitr; · iapply (inv_at m ρ K (c, .inr (.inl o))); iexact HR
  isplitr; · iapply (inv_at m ρ K (peer o c, .inr (.inr (rev o)))); iexact HR
  isplitl [Hsrc]; · rw [slotM_set]; unfold slotAt; iexact Hsrc
  isplitl [Hdst]; · rw [slotM_set]; iexact Hdst
  isplitl [HO]; · iexact HO
  isplitl [Hts]; · iexact Hts
  isplitr; · iapply (reached_at m ρ K (c, .inr (.inl o))); iexact HR
  isplitl [Htr]; · iexact Htr
  iapply (reached_at m ρ K (peer o c, .inr (.inr (rev o)))); iexact HR

/-- A wait for all of one slot's bytes on one of the six copy semaphores: what the copy hands over, and the semaphore
    back at zero. -/
theorem wp_arrive (c : Dev nD) (k₀ : Fin 3 ⊕ Fin 3) (P : sProp 𝕄) (hP : payOf m ρ c (.inr k₀) 0 = P) (W : Waits sig Unit)
    (sem : DmaSem sig) (hs : xsem (.inr k₀) = .dma sem) (i j : Fin 4)
    {hsrc : (slotM i).view.WordExact} {hdst : (slotM j).view.WordExact} {Q : α → sProp 𝕄} {k : PUnit → Prog (TpuEff nD τ sig (Elt F) Λ₀ .tc) α} :
    iprop(records m ρ K ∗ cred (tallyAt (xcell (c, .inr k₀)) () N) ∗ owes (c : Thread nD τ) 0 W ∗ atPos EX (xcell (c, .inr k₀)) 0 ∅ 0)
      ⊢ iprop(((∃ W, owes (c : Thread nD τ) 0 W) ∗ semVal (xcell (c, .inr k₀)) 0 ∗ P -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem (slotM i) (slotM j) hsrc hdst) k) Q) := by
  subst hP
  have hx : xcell (c, .inr k₀) = ((c : Thread nD τ), .dma sem) := by unfold xcell; rw [hs]
  have he : (sched (F := F) m ρ).expect ((c : Thread nD τ), .dma sem) 0 = N := by
    rw [← hx, expect_at]; exact Nat.one_mul _
  have hr : bigSep ((sched (F := F) m ρ).duties ((c : Thread nD τ), .dma sem) 0 \ ∅) (fun d => (sched (F := F) m ρ).payload ((c : Thread nD τ), .dma sem) 0 d)
      = payOf m ρ c (.inr k₀) 0 := by
    rw [← hx, Finset.sdiff_empty, duties_at]
    simp only [payload_at]
    exact bigSep_singleton
  iintro ⟨#HR, Hc, HO, Hat⟩ Hk
  rw [hx]
  iapply (Rounds.wp_wait_rest_token 𝒱₀ EX (sched m ρ) (c : Thread nD τ) none (κ := K (c, .inr k₀))
      (wpE_waitDma2_eq 𝒱₀ (c : Thread nD τ) none Set.univ) (Set.mem_univ _) () (O := 0) (W := W) (R := 0) (m := 0) (T := ∅)
      (by rw [he, slot_credit, Nat.zero_add])) $$ [Hc HO Hat]
  · isplitr; · rw [← hx]; iapply (inv_at m ρ K (c, .inr k₀)); iexact HR
    isplitl [Hc]; · rw [slot_credit]; iexact Hc
    isplitl [HO]; · iexact HO
    isplitr; · rw [MayWait_zero]; iempintro
    iexact Hat
  iintro ⟨HO, Hat, -, Hpay⟩
  ihave Hp := (Entails.of_eq hr) $$ Hpay
  imod (Rounds.cell_close EX (sched m ρ) (Set.mem_univ (K (c, .inr k₀))) (fun h => h) (R := 0 + 1) (duties_later m ρ ((c : Thread nD τ), .dma sem))) $$ [Hat] with Hz
  · isplitr; · rw [← hx]; iapply (inv_at m ρ K (c, .inr k₀)); iexact HR
    iexact Hat
  iapply Hk
  isplitl [HO]; · iexists _; iexact HO
  isplitl [Hz]; · iexact Hz
  iexact Hp

/-- Loading a slot. -/
theorem wp_loadSlot (c : Dev nD) (j : Fin 4) (q : PosShare TreeShare) (X : S1x256x8.Idx → Elt F .f32)
    {hl : (bM : Memref sig .tc .vmem S4x256x8 .f32).view.LoadsAt (slotR j).toLoadRect} {Q : α → sProp 𝕄} {k : (S1x256x8.Idx → Elt F .f32) → Prog (TpuEff nD τ sig (Elt F) Λ₀ .tc) α} :
    slotAt m c j q X ⊢ iprop((slotAt m c j q X -∗ wp frame (wpE (defs₀ (F := F)) 𝒱₀ (c : Thread nD τ) none) Set.univ (k X) Q)
        -∗ wp frame (wpE (defs₀ (F := F)) 𝒱₀ (c : Thread nD τ) none) Set.univ (.op (.load bM (slotR j).toLoadRect hl) k) Q) := by
  unfold slotAt
  iintro H Hk
  iapply (wp_load_rect 𝒱₀ (c : Thread nD τ) none Set.univ (m := bM) (r := slotR j) (Finset.Subset.refl _)) $$ H
  iintro H
  rw [show ((bM : Memref sig .tc .vmem S4x256x8 .f32).access (slotR j)).read (Elt F) (filled m c j X) = X from read_filled m c j X]
  iapply Hk
  iexact H

/-- Loading a slot whose contents do not matter. -/
theorem wp_peekSlot (c : Dev nD) (j : Fin 4)
    {hl : (bM : Memref sig .tc .vmem S4x256x8 .f32).view.LoadsAt (slotR j).toLoadRect} {Q : α → sProp 𝕄} {k : (S1x256x8.Idx → Elt F .f32) → Prog (TpuEff nD τ sig (Elt F) Λ₀ .tc) α} :
    slotAny c j ⊢ iprop((∀ X, slotAny c j -∗ wp frame (wpE (defs₀ (F := F)) 𝒱₀ (c : Thread nD τ) none) Set.univ (k X) Q)
        -∗ wp frame (wpE (defs₀ (F := F)) 𝒱₀ (c : Thread nD τ) none) Set.univ (.op (.load bM (slotR j).toLoadRect hl) k) Q) := by
  unfold slotAny
  iintro ⟨%f, H⟩ Hk
  iapply (wp_load_rect 𝒱₀ (c : Thread nD τ) none Set.univ (m := bM) (r := slotR j) (Finset.Subset.refl _)) $$ H
  iintro H
  ispecialize Hk $$ %_
  iapply Hk
  iexists f; iexact H

/-- Storing into a slot. -/
theorem wp_storeSlot (c : Dev nD) (j : Fin 4) (X : S1x256x8.Idx → Elt F .f32)
    {hx : ((bM : Memref sig .tc .vmem S4x256x8 .f32).access (slotR j)).Stores Finset.univ}
    {hm : (Finset.univ : Finset (slotR j).shape.Idx) = Finset.univ ∨ ∀ a, (slotR j).stride a = 1} {Q : α → sProp 𝕄} {k : PUnit → Prog (TpuEff nD τ sig (Elt F) Λ₀ .tc) α} :
    slotAny c j ⊢ iprop((slotAt m c j fullShare X -∗ wp frame (wpE (defs₀ (F := F)) 𝒱₀ (c : Thread nD τ) none) Set.univ (k ⟨⟩) Q)
        -∗ wp frame (wpE (defs₀ (F := F)) 𝒱₀ (c : Thread nD τ) none) Set.univ (.op (.store bM (slotR j) X Finset.univ hx hm) k) Q) := by
  unfold slotAny
  iintro ⟨%f, H⟩
  rw [← slotAt_of_write m c j fullShare X f]
  iapply (wp_store 𝒱₀ (c : Thread nD τ) none Set.univ (m := bM) (r := slotR j) (Mk := Finset.univ) (S := (slotV j).set) (f := f) (by rw [View.setOn_univ])) $$ H

end Steps

/-! ## The body -/

section Body

omit [FloatOps F] in
theorem hz : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S256x1024 .bf16).view.readAt (Elt F) (Rect.unit (s := S256x1024) ![0, 0] S256x1024.size inb_S256x1024_S256x1024_0_0).toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S256x8 .f32).access (Rect.unit (s := S256x8) ![0, 0] S256x8.size inb_S256x8_S256x8_0_0) : View sig .tc _ _ _).write (Elt F) f w Finset.univ = w :=
  Memref.write_access_unit_zero_univ (Elt F) cc0_stg1_0 hz _ f w

theorem send1 : ((cc0_scratch1.slice (Rect.unit (s := S4) ![1] ![1] inb_S4_S1_1)).squeeze S_ squeezes_S1_S_).sem = sS 0 := rfl
theorem send2 : ((cc0_scratch1.slice (Rect.unit (s := S4) ![2] ![1] inb_S4_S1_2)).squeeze S_ squeezes_S1_S_).sem = sS 1 := rfl
theorem send3 : ((cc0_scratch1.slice (Rect.unit (s := S4) ![3] ![1] inb_S4_S1_3)).squeeze S_ squeezes_S1_S_).sem = sS 2 := rfl
theorem recv1 : ((cc0_scratch2.slice (Rect.unit (s := S4) ![1] ![1] inb_S4_S1_1)).squeeze S_ squeezes_S1_S_).sem = rS 0 := rfl
theorem recv2 : ((cc0_scratch2.slice (Rect.unit (s := S4) ![2] ![1] inb_S4_S1_2)).squeeze S_ squeezes_S1_S_).sem = rS 1 := rfl
theorem recv3 : ((cc0_scratch2.slice (Rect.unit (s := S4) ![3] ![1] inb_S4_S1_3)).squeeze S_ squeezes_S1_S_).sem = rS 2 := rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

set_option maxHeartbeats 1600000 in
/-- The program run from `bodyPre`, one rule per effect in program order, to `bodyPost`. -/
theorem sound_body (c : Dev nD) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId,
    send1, send2, send3, recv1, recv2, recv3]
  unfold bodyPre Φ₀ start waitTok payTok
  iintro ⟨⟨⟨⟨%K, #HR⟩, ⟨HatB, HcB⟩, ⟨⟨HatS0, HatV0, HcV0⟩, ⟨HatS1, HatV1, HcV1⟩, HatS2, HatV2, HcV2⟩,
    ⟨⟨HtB0, HtS0, HtV0⟩, ⟨HtB1, HtS1, HtV1⟩, HtB2, HtS2, HtV2⟩, Hidle, #Hlev⟩, Hbuf⟩,
    Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hb := (cut_slots (F := F) c) $$ Hbuf
  icases Hb with ⟨⟨Hb0, Hb1, Hb2, Hb3⟩, Hrest⟩
  unfold O₀
  -- the meeting: three raises, each lending a slot, and the wait
  iapply (wp_meet m ρ K c _ 0 (sig1_eq c) _ W) $$ [HO HtB0 Hb1]
  · isplitr; · iexact HR
    isplitl [HO]; · iexact HO
    isplitl [HtB0]; · iexact HtB0
    iexact Hb1
  iintro HO
  iapply (wp_meet m ρ K c _ 1 (sig2_eq c) _ W) $$ [HO HtB1 Hb2]
  · isplitr; · iexact HR
    isplitl [HO]; · iexact HO
    isplitl [HtB1]; · iexact HtB1
    iexact Hb2
  iintro HO
  iapply (wp_meet m ρ K c _ 2 (sig3_eq c) _ W) $$ [HO HtB2 Hb3]
  · isplitr; · iexact HR
    isplitl [HO]; · iexact HO
    isplitl [HtB2]; · iexact HtB2
    iexact Hb3
  iintro HO
  iapply (wp_met m ρ K c W) $$ [HO HcB HatB]
  · isplitr; · iexact HR
    isplitr; · iexact Hlev
    isplitl [HcB]; · iexact HcB
    isplitl [HO]; · iexact HO
    iexact HatB
  iintro ⟨⟨%W1, HO⟩, HzB, Hd1, Hd2, Hd3⟩
  -- the block is loaded, its list of maxima stored in slot 0
  iapply (wp_load 𝒱₀ (c : Thread nD τ) none Set.univ (m := xM) (Finset.subset_univ _)) $$ Hx; iintro Hx
  rw [read_x]
  iapply (wp_peekSlot c 0) $$ Hb0; iintro %X0 Hb0
  iapply (wp_storeSlot m c 0 (tops m ρ c)) $$ Hb0; iintro Hb0
  ihave Hl := (lend m c 0 (tops m ρ c)).1 $$ Hb0
  icases Hl with ⟨Hl0, Hl1, Hl2⟩
  unfold owesCopies
  -- the three copies
  iapply (wp_copy m ρ K c _ 0 (cpy1_eq c) _ W1) $$ [HO Hl0 Hd3 HtS0 HtV0]
  · isplitr; · iexact HR
    isplitl [Hl0]; · iexact Hl0
    isplitl [Hd3]; · iexact Hd3
    isplitl [HO]; · iexact HO
    isplitl [HtS0]; · iexact HtS0
    iexact HtV0
  iintro ⟨HcS0, HO⟩
  iapply (wp_copy m ρ K c _ 1 (cpy2_eq c) _ W1) $$ [HO Hl1 Hd2 HtS1 HtV1]
  · isplitr; · iexact HR
    isplitl [Hl1]; · iexact Hl1
    isplitl [Hd2]; · iexact Hd2
    isplitl [HO]; · iexact HO
    isplitl [HtS1]; · iexact HtS1
    iexact HtV1
  iintro ⟨HcS1, HO⟩
  iapply (wp_copy m ρ K c _ 2 (cpy3_eq c) _ W1) $$ [HO Hl2 Hd1 HtS2 HtV2]
  · isplitr; · iexact HR
    isplitl [Hl2]; · iexact Hl2
    isplitl [Hd1]; · iexact Hd1
    isplitl [HO]; · iexact HO
    isplitl [HtS2]; · iexact HtS2
    iexact HtV2
  iintro ⟨HcS2, HO⟩
  -- the six waits
  iapply (wp_arrive m ρ K c (.inr 0) (recvPay m ρ c 0) rfl W1 (rS 0) rfl 0 1) $$ [HO HcV0 HatV0]
  · isplitr; · iexact HR
    isplitl [HcV0]; · iexact HcV0
    isplitl [HO]; · iexact HO
    iexact HatV0
  iintro ⟨⟨%W2, HO⟩, HzV0, Hr1⟩
  iapply (wp_arrive m ρ K c (.inr 1) (recvPay m ρ c 1) rfl W2 (rS 1) rfl 0 2) $$ [HO HcV1 HatV1]
  · isplitr; · iexact HR
    isplitl [HcV1]; · iexact HcV1
    isplitl [HO]; · iexact HO
    iexact HatV1
  iintro ⟨⟨%W3, HO⟩, HzV1, Hr2⟩
  iapply (wp_arrive m ρ K c (.inr 2) (recvPay m ρ c 2) rfl W3 (rS 2) rfl 0 3) $$ [HO HcV2 HatV2]
  · isplitr; · iexact HR
    isplitl [HcV2]; · iexact HcV2
    isplitl [HO]; · iexact HO
    iexact HatV2
  iintro ⟨⟨%W4, HO⟩, HzV2, Hr3⟩
  iapply (wp_arrive m ρ K c (.inl 0) (sendPay m ρ c 0) rfl W4 (sS 0) rfl 3 0) $$ [HO HcS0 HatS0]
  · isplitr; · iexact HR
    isplitl [HcS0]; · iexact HcS0
    isplitl [HO]; · iexact HO
    iexact HatS0
  iintro ⟨⟨%W5, HO⟩, HzS0, Hl0⟩
  iapply (wp_arrive m ρ K c (.inl 1) (sendPay m ρ c 1) rfl W5 (sS 1) rfl 2 0) $$ [HO HcS1 HatS1]
  · isplitr; · iexact HR
    isplitl [HcS1]; · iexact HcS1
    isplitl [HO]; · iexact HO
    iexact HatS1
  iintro ⟨⟨%W6, HO⟩, HzS1, Hl1⟩
  iapply (wp_arrive m ρ K c (.inl 2) (sendPay m ρ c 2) rfl W6 (sS 2) rfl 1 0) $$ [HO HcS2 HatS2]
  · isplitr; · iexact HR
    isplitl [HcS2]; · iexact HcS2
    isplitl [HO]; · iexact HO
    iexact HatS2
  iintro ⟨⟨%W7, HO⟩, HzS2, Hl2⟩
  unfold sendPay recvPay
  ihave Hb0 := (lend m c 0 (tops m ρ c)).2 $$ [Hl0 Hl1 Hl2]
  · isplitl [Hl0]; · iexact Hl0
    isplitl [Hl1]; · iexact Hl1
    iexact Hl2
  -- the four lists are loaded, the list made of them stored
  iapply (wp_loadSlot m c 0 fullShare (tops m ρ c)) $$ Hb0; iintro Hb0
  iapply (wp_loadSlot m c (Fin.succ 0) fullShare (tops m ρ (peer 0 c))) $$ Hr1; iintro Hr1
  iapply (wp_loadSlot m c (Fin.succ 1) fullShare (tops m ρ (peer 1 c))) $$ Hr2; iintro Hr2
  iapply (wp_loadSlot m c (Fin.succ 2) fullShare (tops m ρ (peer 2 c))) $$ Hr3; iintro Hr3
  iapply (wp_load 𝒱₀ (c : Thread nD τ) none Set.univ (m := oM) (Finset.subset_univ _)) $$ Hout; iintro Hout
  iapply (wp_store 𝒱₀ (c : Thread nD τ) none Set.univ (m := oM) (r := Rect.unit (s := S256x8) ![0, 0] S256x8.size inb_S256x8_S256x8_0_0) (Mk := Finset.univ) (Finset.subset_univ _)) $$ Hout; iintro Hout
  rw [write_out, wp_ret]; imodintro
  unfold bodyPost Φ₁ Dat.owesAt Pipeline.owesWithin
  rw [show (dats m ρ 0 c).owed t₀.succ = 0 from rfl]
  isplitl [Hb0 Hr1 Hr2 Hr3 Hrest HzB HzS0 HzS1 HzS2 HzV0 HzV1 HzV2 Hidle]
  · isplitl [Hb0 Hr1 Hr2 Hr3 Hrest]
    · iapply (join_slots (F := F) c (m (bLoc c)))
      isplitr [Hrest]
      · isplitl [Hb0]; · iapply (slotAny_of m c 0 _); iexact Hb0
        isplitl [Hr1]; · iapply (slotAny_of m c (Fin.succ 0) _); iexact Hr1
        isplitl [Hr2]; · iapply (slotAny_of m c (Fin.succ 1) _); iexact Hr2
        iapply (slotAny_of m c (Fin.succ 2) _); iexact Hr3
      iexact Hrest
    isplitl [HzB]; · iexact HzB
    isplitl [HzS0 HzS1 HzS2]
    · isplitl [HzS0]; · iexact HzS0
      isplitl [HzS1]; · iexact HzS1
      iexact HzS2
    isplitl [HzV0 HzV1 HzV2]
    · isplitl [HzV0]; · iexact HzV0
      isplitl [HzV1]; · iexact HzV1
      iexact HzV2
    iexact Hidle
  isplitl [HO]
  · iexists W7
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body's obligation in the launch. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Body

end Cert.TopkProof

end
-- ==== Proof.Launch.lean ====
/-
# The launch of the 32 devices, and the run

The tokens of the exchange are minted cell by cell and dealt to the devices that use them; what the devices owe
at launch adds up, cell by cell, to what each waits for. Then the run of the whole program, for any float values,
and what it leaves in memory.
-/
module

public import proofs.«01_k».proof.Proof.Body
public import Idealize.ShloMosaic.Lib.Pipeline.CollectiveSegs

@[expose] public section

noncomputable section

namespace Cert.TopkProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The two idle semaphores, then the six the copies use. -/
def osem : Fin 2 ⊕ (Fin 3 ⊕ Fin 3) → SemLoc sig
  | .inl 0 => .dma (2 : Fin 10)
  | .inl 1 => .dma (6 : Fin 10)
  | .inr k => xsem (.inr k)

theorem ownSemFacts : Pipeline.OwnSemFacts cfg0.spec osem := by decide

theorem share_eq (c : Dev nD) (w : Fin cfg0.W) : (dats m ρ 0 c).share w = fullShare := by unfold Dat.share; split <;> rfl

omit [FloatOps F] in
theorem bigSep_unit (Φ : Unit → sProp 𝕄) : bigSep Finset.univ Φ = Φ () := bigSep_singleton
omit [FloatOps F] in
theorem bigSep_two (Φ : Fin 2 → sProp 𝕄) : bigSep Finset.univ Φ = iprop(Φ 0 ∗ Φ 1) := bigSep_univ_eq_bigSepL [0, 1] (by decide) (by decide) Φ
omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
/-- Over the exchange's semaphores: the meeting's, the sends', the receives'. -/
theorem bigSep_xsem (Φ : XSem → sProp 𝕄) :
    bigSep Finset.univ Φ = iprop(Φ (.inl ()) ∗ (bigSep Finset.univ fun o => Φ (.inr (.inl o))) ∗ (bigSep Finset.univ fun o => Φ (.inr (.inr o)))) := by
  rw [BI.bigSep_univ_sum, BI.bigSep_univ_sum, bigSep_unit]; rfl

omit [FloatOps F] in
theorem ownSems0_eq (c : Dev nD) : (Pipeline.ownSems0 (Ix := Unit) (Name := ℕ) (U := UU) (Lvl := ℕ) (Val := Elt F) (τ := τ) osem c : sProp 𝕄)
    = iprop(idle c ∗ (bigSep Finset.univ fun o : Fin 3 => semVal (sendCell c o) 0) ∗ (bigSep Finset.univ fun o : Fin 3 => semVal (recvCell c o) 0)) := by
  unfold Pipeline.ownSems0
  rw [BI.bigSep_univ_sum, BI.bigSep_univ_sum, bigSep_two]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Minting -/

theorem xcell_injective : Function.Injective (xcell : Dev nD × XSem → GSem nD τ sig) := by
  rintro ⟨c, k⟩ ⟨c', k'⟩ h
  have h1 : c = c' := congrArg (fun g : GSem nD τ sig => g.1.1) h
  have h2 : xsem k = xsem k' := congrArg Prod.snd h
  rw [h1, xsem_injective h2]

theorem xcell_eq_iff {a b : Dev nD} {k : XSem} : xcell (a, k) = xcell (b, k) ↔ a = b :=
  ⟨fun h => congrArg Prod.fst (xcell_injective h), fun h => h ▸ rfl⟩

def xcells : Finset (GSem nD τ sig) := Finset.univ.map ⟨xcell, xcell_injective⟩

/-- A device's tokens as minted: the three of its meeting semaphore, one of each send and receive semaphore. -/
abbrev tokKey : Fin 3 ⊕ (Fin 3 ⊕ Fin 3) → XSem × Fin 3
  | .inl d => (.inl (), d)
  | .inr k => (.inr k, 0)
theorem tokKey_injective : Function.Injective tokKey := by
  rintro (d | k) (d' | k') h
  · exact congrArg Sum.inl (congrArg Prod.snd h)
  · exact absurd (congrArg Prod.fst h) (fun h => by cases h)
  · exact absurd (congrArg Prod.fst h) (fun h => by cases h)
  · exact congrArg Sum.inr (Sum.inr.inj (congrArg Prod.fst h))

abbrev tokOf (ck : Dev nD × (Fin 3 ⊕ (Fin 3 ⊕ Fin 3))) : GSem nD τ sig × ℕ × Fin 3 :=
  (xcell (ck.1, (tokKey ck.2).1), 0, (tokKey ck.2).2)
theorem tokOf_injective : Function.Injective tokOf := by
  rintro ⟨c, j⟩ ⟨c', j'⟩ h
  have h1 := xcell_injective (congrArg (fun x : GSem nD τ sig × ℕ × Fin 3 => x.1) h)
  have h2 := congrArg (fun x : GSem nD τ sig × ℕ × Fin 3 => x.2.2) h
  have hc : c = c' := congrArg Prod.fst h1
  have hj : tokKey j = tokKey j' := Prod.ext (congrArg Prod.snd h1) h2
  rw [hc, tokKey_injective hj]
def xtoks : Finset (GSem nD τ sig × ℕ × Fin 3) := Finset.univ.map ⟨tokOf, tokOf_injective⟩

def u₀ : UU :=
  (initOf (Pipeline.cells cfgs cellOf_inj) (Pipeline.launchToks cfgs cellOf_inj), initOf xcells xtoks)

/-- The tokens of device `c`'s own cells. -/
def toks (c : Dev nD) : sProp 𝕄 :=
  iprop((bigSep Finset.univ fun o : Fin 3 => dutyTok EX (barCell c) 0 o) ∗ (bigSep Finset.univ fun o : Fin 3 => dutyTok EX (sendCell c o) 0 0)
    ∗ (bigSep Finset.univ fun o : Fin 3 => dutyTok EX (recvCell c o) 0 0))

/-- What device `c` is dealt at launch, and what the devices together make of it. -/
def G (c : Dev nD) : sProp 𝕄 :=
  iprop((bigSep Finset.univ fun k : XSem => roundState EX (sched m ρ) (xcell (c, k)) 0)
    ∗ (bigSep Finset.univ fun k : XSem => iprop(atPos EX (xcell (c, k)) 0 ∅ 0 ∗ reached EX (xcell (c, k)) 0)) ∗ toks c)

def linear (c : Dev nD) : sProp 𝕄 :=
  iprop((bigSep Finset.univ fun k : XSem => atPos EX (xcell (c, k)) 0 ∅ 0) ∗ (bigSep Finset.univ fun o : Fin 3 => payTok c o))
def G' (c : Dev nD) : sProp 𝕄 := iprop((∃ K, records m ρ K) ∗ linear c ∗ idle c)

theorem fund_exchange : BI.own (EX (initOf xcells xtoks)) ⊢ (|==> bigSep Finset.univ (G m ρ) : sProp 𝕄) := by
  have hX (Φ : GSem nD τ sig → sProp 𝕄) : bigSep xcells Φ = bigSep Finset.univ fun c : Dev nD => bigSep Finset.univ fun k : XSem => Φ (xcell (c, k)) := by
    unfold xcells; rw [bigSep_map, bigSep_univ_prod]; rfl
  have hT : bigSep xtoks (fun x => (dutyTok EX x.1 x.2.1 x.2.2 : sProp 𝕄)) = bigSep Finset.univ fun c : Dev nD => toks c := by
    unfold xtoks; rw [bigSep_map, bigSep_univ_prod]
    exact bigSep_congr fun c _ => by unfold toks; rw [BI.bigSep_univ_sum, BI.bigSep_univ_sum]; rfl
  iintro HX
  imod (Rounds.fund EX (sched m ρ) xcells xtoks) $$ HX with ⟨Hst, Hr, Hat, Htok⟩
  imodintro
  ihave Hst' := (Entails.of_eq (hX fun g => roundState EX (sched m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Every semaphore of a device is one of the exchange's or idle. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : XSem => semVal (xcell (c, k)) 0) ∗ idle c) : sProp 𝕄) := by
  rw [ownSems0_eq, unscopedSems0_eq, bigSep_xsem]
  iintro ⟨⟨HI, HS, HV⟩, HB⟩
  isplitr [HI]
  · isplitl [HB]; · iexact HB
    isplitl [HS]; · iexact HS
    iexact HV
  iexact HI

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (sched m ρ) κ (xcell (c, k))))
          ∗ (bigSep Finset.univ fun k => iprop(atPos EX (xcell (c, k)) 0 ∅ 0 ∗ reached EX (xcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : XSem => semVal (xcell (c, k)) 0) ∗ bigSep Finset.univ fun k : XSem => roundState EX (sched m ρ) (xcell (c, k)) 0)
      ⊢ (|={Set.univ}=> bigSep Finset.univ fun k => iprop(∃ κ : ℕ, cellInv EX (sched m ρ) κ (xcell (c, k))) : sProp 𝕄) from by
        rw [← bigSep_sep']
        exact (bigSep_mono fun k _ => (Rounds.body_intro EX (sched m ρ) (xcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing -/

omit [FloatOps F] in
/-- A family over devices and offsets, each member moved to the partner at its offset. -/
theorem deal (Φ : Dev nD → Fin 3 → sProp 𝕄) :
    (bigSep Finset.univ fun c : Dev nD => bigSep Finset.univ fun o : Fin 3 => Φ c o)
      = bigSep Finset.univ fun c : Dev nD => bigSep Finset.univ fun o : Fin 3 => Φ (peer o c) o := by
  rw [Pipeline.bigSep_univ_comm, Pipeline.bigSep_univ_comm (fun c o => Φ (peer o c) o)]
  exact bigSep_congr fun o _ => BI.bigSep_univ_equiv (around o) (fun c => Φ c o)

omit [FloatOps F] in
/-- A family over devices and offsets, each member moved to the partner it is reversed from. -/
theorem deal_rev (Φ : Dev nD → Fin 3 → sProp 𝕄) :
    (bigSep Finset.univ fun c : Dev nD => bigSep Finset.univ fun o : Fin 3 => Φ c o)
      = bigSep Finset.univ fun c : Dev nD => bigSep Finset.univ fun o : Fin 3 => Φ (peer o c) (rev o) := by
  rw [bigSep_congr (s := Finset.univ) fun (c : Dev nD) _ => BI.bigSep_univ_equiv (Fin.revPerm (n := 3)) (fun o => Φ c o)]
  exact deal fun c o => Φ c (rev o)

omit [FloatOps F] in
/-- The tokens dealt to the devices that pay with them. -/
theorem toks_dealt : (bigSep Finset.univ fun c : Dev nD => (toks c : sProp 𝕄))
    = bigSep Finset.univ fun c : Dev nD => bigSep Finset.univ fun o : Fin 3 => payTok c o := by
  unfold toks payTok
  simp only [bigSep_sep']
  rw [deal fun c o => (dutyTok EX (barCell c) 0 o : sProp 𝕄), deal_rev fun c o => (dutyTok EX (recvCell c o) 0 0 : sProp 𝕄)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × XSem → ℕ) (c : Dev nD) : iprop(records m ρ K ∗ linear c ∗ idle c) ⊢ G' m ρ c := by
  unfold G'
  iintro ⟨HR, HL, HI⟩
  isplitl [HR]; · iexists K; iexact HR
  isplitl [HL] <;> iassumption

theorem regroup :
    (bigSep Finset.univ fun c : Dev nD => iprop((bigSep Finset.univ fun k => iprop(∃ κ : ℕ, cellInv EX (sched m ρ) κ (xcell (c, k))))
          ∗ (bigSep Finset.univ fun k => iprop(atPos EX (xcell (c, k)) 0 ∅ 0 ∗ reached EX (xcell (c, k)) 0)) ∗ toks c ∗ idle c) : sProp 𝕄)
      ⊢ bigSep Finset.univ (G' m ρ) := by
  rw [bigSep_sep', bigSep_sep', bigSep_sep', ← bigSep_univ_prod (fun ck : Dev nD × XSem => iprop(∃ κ : ℕ, cellInv EX (sched m ρ) κ (xcell ck))),
    bigSep_congr (s := Finset.univ) (fun (c : Dev nD) _ => bigSep_sep' Finset.univ (fun k : XSem => (atPos EX (xcell (c, k)) 0 ∅ 0 : sProp 𝕄)) (fun k => reached EX (xcell (c, k)) 0)),
    bigSep_sep', ← bigSep_univ_prod (fun ck : Dev nD × XSem => (reached EX (xcell ck) 0 : sProp 𝕄)), toks_dealt]
  iintro ⟨HI, ⟨Hat, #HR⟩, Htok, Hidle⟩
  ihave HK := (BI.bigSep_exists_pi Finset.univ (fun (ck : Dev nD × XSem) (κ : ℕ) => (cellInv EX (sched m ρ) κ (xcell ck) : sProp 𝕄))) $$ HI
  icases HK with ⟨%K, #HI⟩
  iapply (bigSep_with_persistent (R := records m ρ K) fun c _ => ghost_intro m ρ K c)
  isplitr
  · unfold records; isplitl; · iexact HI
    iexact HR
  · unfold linear
    simp only [bigSep_sep']
    isplitr [Hidle]
    · isplitl [Hat]; · iexact Hat
      iexact Htok
    iexact Hidle

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed is what is waited for -/

theorem tally_at (a b : Dev nD) (k k' : XSem) (n : ℕ) :
    tallyAt (xcell (a, k)) () n (xcell (b, k')) () = if k = k' ∧ a = b then n else 0 := by
  rw [tallyAt_apply]
  by_cases h : k = k' ∧ a = b
  · obtain ⟨rfl, rfl⟩ := h
    rw [if_pos ⟨rfl, rfl⟩, if_pos ⟨rfl, rfl⟩]
  · rw [if_neg h, if_neg]
    rintro ⟨h1, -⟩
    have := xcell_injective h1
    exact h ⟨(congrArg Prod.snd this).symm, (congrArg Prod.fst this).symm⟩

/-- What device `d` owes cell `k` of device `c`. -/
theorem owed_at (d c : Dev nD) (k : XSem) : O₀ d (xcell (c, k)) ()
    = (if Sum.inr (Sum.inr 0) = k ∧ peer 2 d = c then N else 0) + (if Sum.inr (Sum.inr 1) = k ∧ peer 1 d = c then N else 0)
      + (if Sum.inr (Sum.inr 2) = k ∧ peer 0 d = c then N else 0)
      + (if Sum.inl () = k ∧ peer 2 d = c then 1 else 0) + (if Sum.inl () = k ∧ peer 1 d = c then 1 else 0)
      + (if Sum.inl () = k ∧ peer 0 d = c then 1 else 0) := by
  rw [← tally_at, ← tally_at, ← tally_at, ← tally_at, ← tally_at, ← tally_at]
  show ((0 : ℕ) + _ + _ + _ + _ + _ + _) = _
  rw [Nat.zero_add]
  rfl

/-- Each device has one partner at each offset that owes it. -/
theorem sum_peer (o : Fin 3) (c : Dev nD) (p : Prop) [Decidable p] (n : ℕ) :
    (∑ d : Dev nD, if p ∧ peer o d = c then n else 0) = if p then n else 0 := by
  have h (d : Dev nD) : (p ∧ peer o d = c) ↔ (d = peer (rev o) c ∧ p) :=
    ⟨fun ⟨hp, h⟩ => ⟨by rw [← h, peer_rev], hp⟩, fun ⟨h, hp⟩ => ⟨hp, by rw [h, peer_rev']⟩⟩
  simp only [h, ite_and]
  rw [Finset.sum_ite_eq' Finset.univ (peer (rev o) c) fun _ => if p then n else 0, if_pos (Finset.mem_univ _)]

/-- What all devices owe cell `k` of device `c`. -/
theorem owed_sum (c : Dev nD) (k : XSem) : (∑ d : Dev nD, O₀ d (xcell (c, k)) ())
    = (if Sum.inr (Sum.inr 0) = k then N else 0) + (if Sum.inr (Sum.inr 1) = k then N else 0) + (if Sum.inr (Sum.inr 2) = k then N else 0)
      + (if Sum.inl () = k then 1 else 0) + (if Sum.inl () = k then 1 else 0) + (if Sum.inl () = k then 1 else 0) := by
  simp only [owed_at, Finset.sum_add_distrib, sum_peer]

theorem launch_at (c : Dev nD) (k : XSem) (n : ℕ) (h : (∑ d : Dev nD, O₀ d (xcell (c, k)) ()) = n) :
    tallyOn (xcell (c, k)) (launchCredit (Pipeline.owing O₀) 0 (xcell (c, k))) = (tallyAt (xcell (c, k)) () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 3 : CellTallies nD τ sig Unit) :=
  launch_at c (.inl ()) 3 (by rw [owed_sum]; rfl)
theorem launch_recv (c : Dev nD) (o : Fin 3) :
    tallyOn (recvCell c o) (launchCredit (Pipeline.owing O₀) 0 (recvCell c o)) = (tallyAt (recvCell c o) () N : CellTallies nD τ sig Unit) :=
  launch_at c (.inr (.inr o)) N (by rw [owed_sum]; fin_cases o <;> simp)

omit [FloatOps F] in
theorem creds (c : Dev nD) :
    (Pipeline.launchCred O₀ c : sProp 𝕄)
      ⊢ iprop(cred (tallyAt (barCell c) () 3) ∗ bigSep Finset.univ fun o : Fin 3 => cred (tallyAt (recvCell c o) () N)) := by
  unfold Pipeline.launchCred
  rw [bigSep_univ_at _ (SemLoc.reg barS), launch_bar]
  refine sep_mono_right ?_
  have hinj : Function.Injective fun o : Fin 3 => xsem (.inr (.inr o)) :=
    fun a b h => Sum.inr.inj (Sum.inr.inj (xsem_injective h))
  have hs : (Finset.univ.map ⟨fun o : Fin 3 => xsem (.inr (.inr o)), hinj⟩) ⊆ Finset.univ.erase (SemLoc.reg barS) := by
    intro x hx
    obtain ⟨o, -, rfl⟩ := Finset.mem_map.mp hx
    exact Finset.mem_erase.mpr ⟨(fun h => by cases h), Finset.mem_univ _⟩
  refine (bigSep_subset hs).trans ?_
  rw [bigSep_map]
  exact bigSep_mono fun o _ => Entails.of_eq (congrArg cred (launch_recv c o))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' linear waitTok
  rw [bigSep_xsem, bigSep_three, bigSep_three, bigSep_three]
  iintro ⟨-, Hlev, Hcr, -, HG⟩
  ihave Hc := ((creds (F := F) c).trans (sep_mono_right (Entails.of_eq (bigSep_three _)))) $$ Hcr
  icases Hc with ⟨HcB, HcV⟩
  imodintro
  icases HG with ⟨HR, ⟨⟨HaB, ⟨HaS0, HaS1, HaS2⟩, HaV0, HaV1, HaV2⟩, HT⟩, HI⟩
  icases HcV with ⟨Hc0, Hc1, Hc2⟩
  isplitl
  · isplitl [HR]; · iexact HR
    isplitl [HaB HcB]
    · isplitl [HaB]; · iexact HaB
      iexact HcB
    isplitl [HaS0 HaS1 HaS2 HaV0 HaV1 HaV2 Hc0 Hc1 Hc2]
    · isplitl [HaS0 HaV0 Hc0]
      · isplitl [HaS0]; · iexact HaS0
        isplitl [HaV0]; · iexact HaV0
        iexact Hc0
      isplitl [HaS1 HaV1 Hc1]
      · isplitl [HaS1]; · iexact HaS1
        isplitl [HaV1]; · iexact HaV1
        iexact Hc1
      isplitl [HaS2]; · iexact HaS2
      isplitl [HaV2]; · iexact HaV2
      iexact Hc2
    isplitl [HT]; · iexact HT
    isplitl [HI]; · iexact HI
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyBuf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq, bigSep_three, bigSep_three]
  unfold Φ₁ anyBuf
  iintro ⟨Hr, HzB, HzS, HzV, HI⟩
  isplitl [HzB]; · iexact HzB
  isplitr [Hr]
  · isplitl [HI]; · iexact HI
    isplitl [HzS]; · iexact HzS
    iexact HzV
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      obtain ⟨n, hn⟩ := t
      cases n with
      | zero => exact Or.inl rfl
      | succ n => exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program on the 32
    devices terminates with each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is the argument before it. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.TopkProof

end
-- ==== Proof.Value.lean ====
/-
# The values of the kernel and of the reference agree

Device `c` holds columns `1024 y` to `1024 y + 1023` of the array, `y` its second coordinate on the mesh.  The four lists a
device merges are those of the four blocks, so where the mask is set its result is the reference's (`out_eq`).
-/
module

public import proofs.«01_k».proof.Defs
public import proofs.«01_k».proof.Proof.KernelValue
public import proofs.«01_k».proof.Proof.Sorted
public import proofs.«01_k».proof.Proof.Launch
public import proofs.«01_k».proof.Proof.Gen.ReferenceIdeal.Run

@[expose] public section

noncomputable section

namespace Cert.TopkProof

open Cert.KernelIdeal Cert.KernelIdeal.Gen Idealize.ShloMosaic Idealize.ShloMosaic.TcCoe Idealize.SL.Sem

/-! ## Which columns a device holds -/

/-- The device whose list device `c` has in slot `b`. -/
def source (c : Dev nD) : Fin 4 → Dev nD := ![c, peer 0 c, peer 1 c, peer 2 c]

theorem source_y (c : Dev nD) (b : Fin 4) : (source c b : ℕ) / 4 % 4 = (c.val / 4 % 4 + b) % 4 := by
  have h1 : c.val < 32 := c.isLt
  match b with
  | 0 => show c.val / 4 % 4 = (c.val / 4 % 4 + 0) % 4; omega
  | 1 => show (16 * (c.val / 16) + 4 * ((c.val / 4 % 4 + (0 + 1)) % 4) + c.val % 4) / 4 % 4 = (c.val / 4 % 4 + 1) % 4; omega
  | 2 => show (16 * (c.val / 16) + 4 * ((c.val / 4 % 4 + (1 + 1)) % 4) + c.val % 4) / 4 % 4 = (c.val / 4 % 4 + 2) % 4; omega
  | 3 => show (16 * (c.val / 16) + 4 * ((c.val / 4 % 4 + (2 + 1)) % 4) + c.val % 4) / 4 % 4 = (c.val / 4 % 4 + 3) % 4; omega

/-- Column `l` of device `c`'s block, in the whole array. -/
def place (c : Dev nD) (l : Fin 1024) : Fin 4096 := ⟨1024 * (c.val / 4 % 4) + l, by have := l.isLt; omega⟩

/-- The four blocks a device merges cover the columns. -/
theorem place_source (c : Dev nD) (x : Fin 4096) : ∃ b l, place (source c b) l = x := by
  have hx := x.isLt
  refine ⟨⟨(x / 1024 + 4 - c.val / 4 % 4) % 4, by omega⟩, ⟨x % 1024, by omega⟩, Fin.ext ?_⟩
  show 1024 * ((source c _ : ℕ) / 4 % 4) + x % 1024 = x
  rw [source_y]
  show 1024 * ((c.val / 4 % 4 + (x / 1024 + 4 - c.val / 4 % 4) % 4) % 4) + x % 1024 = x
  omega

/-- The array's block on device `c`, as the claim states it. -/
abbrev blockOf (c : Dev nD) (X : FVec Ideal ⟨2, ![256, 4096]⟩ .bf16) : FVec Ideal ⟨2, ![256, 1024]⟩ .bf16 :=
  Layout.blockN ⟨2, ![256, 1024]⟩ ⟨2, ![256, 4096]⟩ (Layout.meshBlock [2, 4, 4] ![[], [1]] c) X

theorem blockOf_apply (c : Dev nD) (X : FVec Ideal ⟨2, ![256, 4096]⟩ .bf16) (r : Fin 256) (l : Fin 1024) :
    blockOf c X (ix2 r l) = X (ix2 r (place c l)) := by
  unfold blockOf
  rw [Layout.blockN_apply]
  refine congrArg X (funext fun a => Fin.ext ?_)
  rw [Layout.TilesN.idx_val]
  match a with
  | ⟨0, _⟩ =>
    show 0 * 256 + (r : ℕ) = r
    omega
  | ⟨1, _⟩ =>
    show (c / 4 % 4 * 1 + 0) * 1024 + (l : ℕ) = 1024 * (c / 4 % 4) + l
    omega

/-! ## The result -/

variable (m : (ℓ : Loc nD τ sig) → Buf (Elt Ideal) ℓ) (ρ : Dev nD → PrngReg)

theorem xstg_eq (c : Dev nD) : xstg m ρ c = m ((c : Thread nD τ).loc main_arg0) :=
  Memref.read_access_unit_zero (Elt Ideal) main_arg0 (off := fun a => win0_0.index (0 : Fin 1) a * main_arg0.ty.shape.size a)
    (funext fun a => by fin_cases a <;> decide) (fun a => by fin_cases a <;> decide) _

theorem out_eq (X : FVec Ideal ⟨2, ![256, 4096]⟩ .bf16) (hX : ∀ c : Dev nD, m ((c : Thread nD τ).loc main_arg0) = blockOf c X)
    (c : Dev nD) (i : (⟨2, ![256, 8]⟩ : Shape).Idx) (hi : Cert.On_untied.fn (F := Ideal) X i = 1#1) :
    outAt m ρ c i = leading (F := Ideal) X i := by
  obtain ⟨r, k, rfl⟩ : ∃ r k, i = ix2 r k := ⟨i 0, i 1, by funext a; match a with | ⟨0, _⟩ => rfl | ⟨1, _⟩ => rfl⟩
  have hk := k.isLt
  have hl := leads_of_mask X r k hi
  have hrow : ∀ d : Dev nD, rowOf (φ := .bf16) (xstg m ρ d) r = fun l => X (ix2 r (place d l)) := fun d => by
    funext l
    exact (congrFun ((xstg_eq m ρ d).trans (hX d)) (ix2 r l)).trans (blockOf_apply d X r l)
  have hcand : ∀ q : Fin 32, rowOf (k0_pay17 (tops m ρ c) (tops m ρ (peer 0 c)) (tops m ρ (peer 1 c)) (tops m ρ (peer 2 c))) r q
      = pick fill (fun l => X (ix2 r (place (source c ⟨q / 8, by omega⟩) l))) (q % 8) := fun q => by
    rw [lists_apply]
    have h4 : ∀ b : Fin 4, (![tops m ρ c, tops m ρ (peer 0 c), tops m ρ (peer 1 c), tops m ρ (peer 2 c)] : Fin 4 → FVec Ideal S1x256x8 .f32) b
        = tops m ρ (source c b) := fun b => by fin_cases b <;> rfl
    rw [← hrow]
    exact (congrFun (h4 _) _).trans (topOf_apply _ r ⟨q % 8, by omega⟩ 0)
  have hp := pick_merged hl
    (fun i hi => ⟨order (fun i => -X i) r ⟨i, by omega⟩, by rw [dif_pos (show i < 4096 by omega)]⟩) hk
    (fun b l => place (source c b) l) (place_source c)
    (rowOf (k0_pay17 (tops m ρ c) (tops m ρ (peer 0 c)) (tops m ρ (peer 1 c)) (tops m ρ (peer 2 c))) r)
    (fun q => ⟨_, _, hcand q⟩)
    (fun b j hj => ⟨⟨8 * b + j, by omega⟩, (hcand _).trans (by
      have e1 : (⟨(8 * (b : ℕ) + j) / 8, by omega⟩ : Fin 4) = b := Fin.ext (by show (8 * (b : ℕ) + j) / 8 = b; omega)
      have e2 : (8 * (b : ℕ) + j) % 8 = j := by omega
      show pick fill (fun l => X (ix2 r (place (source c ⟨(8 * (b : ℕ) + j) / 8, _⟩) l))) ((8 * (b : ℕ) + j) % 8) = _
      rw [e1, e2]
      rfl)⟩)
  have h1 : outAt m ρ c (ix2 r k) = _ := mergeOf_apply _ _ _ _ r k
  rw [h1, leading_apply]
  refine Eq.trans hp ?_
  exact dif_pos (show (k : ℕ) < 4096 by omega)

/-- What a device's result array holds after the run. -/
theorem finalA_out (c : Dev nD) : finalA m ρ c (1 : Fin 2) = outAt m ρ c := by
  have h : (win0_1.blk (0 : Fin 1)).view.read (Elt Ideal) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt Ideal) main_v1 (off := fun a => win0_1.index (0 : Fin 1) a * main_v1.ty.shape.size a)
    (funext fun a => by fin_cases a <;> decide) (fun a => by fin_cases a <;> decide) _).symm.trans h

end Cert.TopkProof

end
-- ==== Proof.lean ====
/-
# The certificate

The five claims about the top-8 kernel on the 2 × 4 × 4 mesh: the three frames, the idealization, and the agreement of
the kernel's result with the reference's at the elements the mask sets.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_untied
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.TopkProof

/-! ## The frames -/

/-- The frame for any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0 :=
  (θ_run Cert.KernelIdeal.defs _ _).mono (fun _ h => ⟨fun c => (h.1 c (0 : Fin 2)).trans (finalA_arg m ρ c), h.2⟩)
    (run_main m ρ)

/-- The kernel and the idealized kernel have one text: their bodies are the same, case by case on the body's label. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun p => funext fun a => ?_)
  match p, a with
  | 0, (t, s) => rfl

theorem defs_eq {F : FTy → Type} [FloatOps F] : Cert.Kernel.defs (F := F) = Cert.KernelIdeal.defs (F := F) :=
  congrArg (Pipeline.defs Cert.KernelIdeal.pcfgs) bodies_eq

theorem frame_kernel : Cert.quiescent_Kernel := by
  intro m ρ _
  rw [defs_eq]
  exact frame_any (F := Bits) m ρ

theorem frame_kernelIdeal : Cert.quiescent_KernelIdeal := fun m ρ _ => frame_any (F := Ideal) m ρ

theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The values -/

/-- The reference's result is the array of leading entries that the mask is made of. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v4)
            = leading (F := Ideal) (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run Cert.ReferenceIdeal.defs _ _).mono (fun _ h c => ⟨(h c).1.trans rfl, (h c).2⟩)
    (Cert.ReferenceIdeal.Value.run (F := Ideal) m ρ)

/-- On every device, where the mask is set, the kernel's result is the reference's. -/
theorem values_agree : Cert.algebraic_KernelIdeal_ReferenceIdeal_on_untied := by
  intro m ρ m' ρ' _ hagree
  refine ⟨leading (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨fun i hi => ?_, (h.1 c (0 : Fin 2)).trans (finalA_arg m ρ c)⟩)
      (run_main (F := Ideal) m ρ)
    exact (congrFun ((h.1 c (1 : Fin 2)).trans (finalA_out m ρ c)) i).trans (out_eq m ρ _ hagree c i hi)
  · exact (θ_run Cert.ReferenceIdeal.defs _ _).mono (fun _ h => ⟨fun i _ => congrFun (h 0).1 i, (h 0).2⟩) (reference_run m' ρ')

theorem claim : Cert.Claim := ⟨Cert.Kernel.Gen.facts, Cert.KernelIdeal.Gen.facts, Cert.ReferenceIdeal.Gen.facts, Cert.On_untied.Gen.facts,
  frame_kernel, frame_kernelIdeal, frame_referenceIdeal, trivial, values_agree⟩

end Cert.Proof

end
